-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x2x64x1024 : Shape := ⟨4, ![2, 2, 64, 1024]⟩
abbrev S2x2 : Shape := ⟨2, ![2, 2]⟩
abbrev S_ : Shape := ⟨0, ![]⟩
abbrev S64x1024 : Shape := ⟨2, ![64, 1024]⟩
abbrev S1x1x64x1024 : Shape := ⟨4, ![1, 1, 64, 1024]⟩
abbrev S1x1 : Shape := ⟨2, ![1, 1]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S2x2x64x1024, .f32⟩
  | .local _ .vmem, ⟨3, _⟩ => ⟨S2x2x64x1024, .f32⟩
  | .local _ .vmem, ⟨4, _⟩ => ⟨S2x2x64x1024, .f32⟩
  | .local _ .vmem, ⟨5, _⟩ => ⟨S2x2x64x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 3 18 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_12 : BitVec 32) (c0_i32_13 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.addi v2 c0_i32_10
  let c16_i32_11 : BitVec 32 := 16#32
  let v14 : BitVec 32 := Scalar.remsi v13 c16_i32_11
  let c256_i32 : BitVec 32 := 256#32
  let v15 : BitVec 32 := Scalar.muli v14 c256_i32
  let v16 : BitVec 32 := Scalar.addi v15 c0_i32_12
  let v17 : BitVec 32 := Scalar.addi v16 c0_i32_13
  let v18 : Index := Scalar.indexCast v17
  let c0 : Index := 0#32
  ![v18.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_26 : BitVec 32 := 1#32
  let v24 : BitVec 32 := Scalar.muli v7 c1_i32_26
  let v25 : BitVec 32 := Scalar.addi c0_i32_27 v24
  v25.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_49 : BitVec 32 := 1#32
  let v45 : BitVec 32 := Scalar.muli v5 c1_i32_49
  let v46 : BitVec 32 := Scalar.addi c0_i32_50 v45
  v46.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_71 : BitVec 32 := 1#32
  let v66 : BitVec 32 := Scalar.muli v7 c1_i32_71
  let v67 : BitVec 32 := Scalar.addi c0_i32_72 v66
  v67.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_95 : BitVec 32 := 1#32
  let v87 : BitVec 32 := Scalar.muli v5 c1_i32_95
  let v88 : BitVec 32 := Scalar.addi c0_i32_96 v87
  v88.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_129 : BitVec 32 := 1#32
  let v119 : BitVec 32 := Scalar.muli v5 c1_i32_129
  let v120 : BitVec 32 := Scalar.addi c0_i32_130 v119
  v120.toNat
def k0_dev8 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_139 : BitVec 32 := 1#32
  let v121 : BitVec 32 := Scalar.muli v7 c1_i32_139
  let v122 : BitVec 32 := Scalar.addi c0_i32_140 v121
  v122.toNat
def k0_dev9 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_174 : BitVec 32 := 1#32
  let v153 : BitVec 32 := Scalar.muli v7 c1_i32_174
  let v154 : BitVec 32 := Scalar.addi c0_i32_175 v153
  v154.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_184 : BitVec 32 := 1#32
  let v155 : BitVec 32 := Scalar.muli v5 c1_i32_184
  let v156 : BitVec 32 := Scalar.addi c0_i32_185 v155
  v156.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_219 : BitVec 32 := 1#32
  let v187 : BitVec 32 := Scalar.muli v5 c1_i32_219
  let v188 : BitVec 32 := Scalar.addi c0_i32_220 v187
  v188.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_229 : BitVec 32 := 1#32
  let v189 : BitVec 32 := Scalar.muli v7 c1_i32_229
  let v190 : BitVec 32 := Scalar.addi c0_i32_230 v189
  v190.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_264 : BitVec 32 := 1#32
  let v221 : BitVec 32 := Scalar.muli v7 c1_i32_264
  let v222 : BitVec 32 := Scalar.addi c0_i32_265 v221
  v222.toNat
def k0_dev14 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_274 : BitVec 32 := 1#32
  let v223 : BitVec 32 := Scalar.muli v5 c1_i32_274
  let v224 : BitVec 32 := Scalar.addi c0_i32_275 v223
  v224.toNat
def k0_dev15 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_321 : BitVec 32 := 1#32
  let v261 : BitVec 32 := Scalar.muli v5 c1_i32_321
  let v262 : BitVec 32 := Scalar.addi c0_i32_322 v261
  v262.toNat
def k0_dev16 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_333 : BitVec 32 := 1#32
  let v263 : BitVec 32 := Scalar.muli v7 c1_i32_333
  let v264 : BitVec 32 := Scalar.addi c0_i32_334 v263
  v264.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_381 : BitVec 32 := 1#32
  let v301 : BitVec 32 := Scalar.muli v7 c1_i32_381
  let v302 : BitVec 32 := Scalar.addi c0_i32_382 v301
  v302.toNat
def k0_dev18 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_393 : BitVec 32 := 1#32
  let v303 : BitVec 32 := Scalar.muli v5 c1_i32_393
  let v304 : BitVec 32 := Scalar.addi c0_i32_394 v303
  v304.toNat
def k0_dev19 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_441 : BitVec 32 := 1#32
  let v341 : BitVec 32 := Scalar.muli v5 c1_i32_441
  let v342 : BitVec 32 := Scalar.addi c0_i32_442 v341
  v342.toNat
def k0_dev20 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v343 : BitVec 32 := Scalar.muli v7 c1_i32_453
  let v344 : BitVec 32 := Scalar.addi c0_i32_454 v343
  v344.toNat
def k0_dev21 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_501 : BitVec 32 := 1#32
  let v381 : BitVec 32 := Scalar.muli v7 c1_i32_501
  let v382 : BitVec 32 := Scalar.addi c0_i32_502 v381
  v382.toNat
def k0_dev22 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_513 : BitVec 32 := 1#32
  let v383 : BitVec 32 := Scalar.muli v5 c1_i32_513
  let v384 : BitVec 32 := Scalar.addi c0_i32_514 v383
  v384.toNat
def k0_dev23 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_560 : BitVec 32 := 1#32
  let v421 : BitVec 32 := Scalar.muli v5 c1_i32_560
  let v422 : BitVec 32 := Scalar.addi c0_i32_561 v421
  v422.toNat
def k0_dev24 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_572 : BitVec 32 := 1#32
  let v423 : BitVec 32 := Scalar.muli v7 c1_i32_572
  let v424 : BitVec 32 := Scalar.addi c0_i32_573 v423
  v424.toNat
def k0_dev25 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_619 : BitVec 32 := 1#32
  let v461 : BitVec 32 := Scalar.muli v7 c1_i32_619
  let v462 : BitVec 32 := Scalar.addi c0_i32_620 v461
  v462.toNat
def k0_dev26 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_631 : BitVec 32 := 1#32
  let v463 : BitVec 32 := Scalar.muli v5 c1_i32_631
  let v464 : BitVec 32 := Scalar.addi c0_i32_632 v463
  v464.toNat
def k0_dev27 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_679 : BitVec 32 := 1#32
  let v501 : BitVec 32 := Scalar.muli v5 c1_i32_679
  let v502 : BitVec 32 := Scalar.addi c0_i32_680 v501
  v502.toNat
def k0_dev28 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_691 : BitVec 32 := 1#32
  let v503 : BitVec 32 := Scalar.muli v7 c1_i32_691
  let v504 : BitVec 32 := Scalar.addi c0_i32_692 v503
  v504.toNat
def k0_dev29 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_739 : BitVec 32 := 1#32
  let v541 : BitVec 32 := Scalar.muli v7 c1_i32_739
  let v542 : BitVec 32 := Scalar.addi c0_i32_740 v541
  v542.toNat
def k0_dev30 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_751 : BitVec 32 := 1#32
  let v543 : BitVec 32 := Scalar.muli v5 c1_i32_751
  let v544 : BitVec 32 := Scalar.addi c0_i32_752 v543
  v544.toNat
def k0_dev31 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_798 : BitVec 32 := 1#32
  let v581 : BitVec 32 := Scalar.muli v5 c1_i32_798
  let v582 : BitVec 32 := Scalar.addi c0_i32_799 v581
  v582.toNat
def k0_dev32 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_810 : BitVec 32 := 1#32
  let v583 : BitVec 32 := Scalar.muli v7 c1_i32_810
  let v584 : BitVec 32 := Scalar.addi c0_i32_811 v583
  v584.toNat
def k0_dev33 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_857 : BitVec 32 := 1#32
  let v621 : BitVec 32 := Scalar.muli v7 c1_i32_857
  let v622 : BitVec 32 := Scalar.addi c0_i32_858 v621
  v622.toNat
def k0_dev34 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_869 : BitVec 32 := 1#32
  let v623 : BitVec 32 := Scalar.muli v5 c1_i32_869
  let v624 : BitVec 32 := Scalar.addi c0_i32_870 v623
  v624.toNat
def k0_dev35 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_917 : BitVec 32 := 1#32
  let v661 : BitVec 32 := Scalar.muli v5 c1_i32_917
  let v662 : BitVec 32 := Scalar.addi c0_i32_918 v661
  v662.toNat
def k0_dev36 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_929 : BitVec 32 := 1#32
  let v663 : BitVec 32 := Scalar.muli v7 c1_i32_929
  let v664 : BitVec 32 := Scalar.addi c0_i32_930 v663
  v664.toNat
def k0_dev37 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_977 : BitVec 32 := 1#32
  let v701 : BitVec 32 := Scalar.muli v7 c1_i32_977
  let v702 : BitVec 32 := Scalar.addi c0_i32_978 v701
  v702.toNat
def k0_dev38 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_989 : BitVec 32 := 1#32
  let v703 : BitVec 32 := Scalar.muli v5 c1_i32_989
  let v704 : BitVec 32 := Scalar.addi c0_i32_990 v703
  v704.toNat
def k0_dev39 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1036 : BitVec 32 := 1#32
  let v741 : BitVec 32 := Scalar.muli v5 c1_i32_1036
  let v742 : BitVec 32 := Scalar.addi c0_i32_1037 v741
  v742.toNat
def k0_dev40 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1048 : BitVec 32 := 1#32
  let v743 : BitVec 32 := Scalar.muli v7 c1_i32_1048
  let v744 : BitVec 32 := Scalar.addi c0_i32_1049 v743
  v744.toNat
def k0_dev41 (d0 : Dev nD) : Nat :=
  let c0_i32_1096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1095 : BitVec 32 := 1#32
  let v781 : BitVec 32 := Scalar.muli v7 c1_i32_1095
  let v782 : BitVec 32 := Scalar.addi c0_i32_1096 v781
  v782.toNat
def k0_dev42 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1107 : BitVec 32 := 1#32
  let v783 : BitVec 32 := Scalar.muli v5 c1_i32_1107
  let v784 : BitVec 32 := Scalar.addi c0_i32_1108 v783
  v784.toNat
def k0_dev43 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1155 : BitVec 32 := 1#32
  let v821 : BitVec 32 := Scalar.muli v5 c1_i32_1155
  let v822 : BitVec 32 := Scalar.addi c0_i32_1156 v821
  v822.toNat
def k0_dev44 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1167 : BitVec 32 := 1#32
  let v823 : BitVec 32 := Scalar.muli v7 c1_i32_1167
  let v824 : BitVec 32 := Scalar.addi c0_i32_1168 v823
  v824.toNat
def k0_dev45 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1215 : BitVec 32 := 1#32
  let v861 : BitVec 32 := Scalar.muli v7 c1_i32_1215
  let v862 : BitVec 32 := Scalar.addi c0_i32_1216 v861
  v862.toNat
def k0_dev46 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1227 : BitVec 32 := 1#32
  let v863 : BitVec 32 := Scalar.muli v5 c1_i32_1227
  let v864 : BitVec 32 := Scalar.addi c0_i32_1228 v863
  v864.toNat
def k0_dev47 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1274 : BitVec 32 := 1#32
  let v901 : BitVec 32 := Scalar.muli v5 c1_i32_1274
  let v902 : BitVec 32 := Scalar.addi c0_i32_1275 v901
  v902.toNat
def k0_dev48 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1286 : BitVec 32 := 1#32
  let v903 : BitVec 32 := Scalar.muli v7 c1_i32_1286
  let v904 : BitVec 32 := Scalar.addi c0_i32_1287 v903
  v904.toNat
def k0_dev49 (d0 : Dev nD) : Nat :=
  let c0_i32_1334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1333 : BitVec 32 := 1#32
  let v941 : BitVec 32 := Scalar.muli v7 c1_i32_1333
  let v942 : BitVec 32 := Scalar.addi c0_i32_1334 v941
  v942.toNat
def k0_dev50 (d0 : Dev nD) : Nat :=
  let c0_i32_1346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1345 : BitVec 32 := 1#32
  let v943 : BitVec 32 := Scalar.muli v5 c1_i32_1345
  let v944 : BitVec 32 := Scalar.addi c0_i32_1346 v943
  v944.toNat
def k0_dev51 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1393 : BitVec 32 := 1#32
  let v981 : BitVec 32 := Scalar.muli v5 c1_i32_1393
  let v982 : BitVec 32 := Scalar.addi c0_i32_1394 v981
  v982.toNat
def k0_dev52 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1405 : BitVec 32 := 1#32
  let v983 : BitVec 32 := Scalar.muli v7 c1_i32_1405
  let v984 : BitVec 32 := Scalar.addi c0_i32_1406 v983
  v984.toNat
def k0_dev53 (d0 : Dev nD) : Nat :=
  let c0_i32_1454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1453 : BitVec 32 := 1#32
  let v1021 : BitVec 32 := Scalar.muli v7 c1_i32_1453
  let v1022 : BitVec 32 := Scalar.addi c0_i32_1454 v1021
  v1022.toNat
def k0_dev54 (d0 : Dev nD) : Nat :=
  let c0_i32_1466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1465 : BitVec 32 := 1#32
  let v1023 : BitVec 32 := Scalar.muli v5 c1_i32_1465
  let v1024 : BitVec 32 := Scalar.addi c0_i32_1466 v1023
  v1024.toNat
def k0_dev55 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1512 : BitVec 32 := 1#32
  let v1061 : BitVec 32 := Scalar.muli v5 c1_i32_1512
  let v1062 : BitVec 32 := Scalar.addi c0_i32_1513 v1061
  v1062.toNat
def k0_dev56 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1524 : BitVec 32 := 1#32
  let v1063 : BitVec 32 := Scalar.muli v7 c1_i32_1524
  let v1064 : BitVec 32 := Scalar.addi c0_i32_1525 v1063
  v1064.toNat
def k0_dev57 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1571 : BitVec 32 := 1#32
  let v1101 : BitVec 32 := Scalar.muli v7 c1_i32_1571
  let v1102 : BitVec 32 := Scalar.addi c0_i32_1572 v1101
  v1102.toNat
def k0_dev58 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1583 : BitVec 32 := 1#32
  let v1103 : BitVec 32 := Scalar.muli v5 c1_i32_1583
  let v1104 : BitVec 32 := Scalar.addi c0_i32_1584 v1103
  v1104.toNat
def k0_dev59 (d0 : Dev nD) : Nat :=
  let c0_i32_1632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1631 : BitVec 32 := 1#32
  let v1141 : BitVec 32 := Scalar.muli v5 c1_i32_1631
  let v1142 : BitVec 32 := Scalar.addi c0_i32_1632 v1141
  v1142.toNat
def k0_dev60 (d0 : Dev nD) : Nat :=
  let c0_i32_1644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1643 : BitVec 32 := 1#32
  let v1143 : BitVec 32 := Scalar.muli v7 c1_i32_1643
  let v1144 : BitVec 32 := Scalar.addi c0_i32_1644 v1143
  v1144.toNat
def k0_dev61 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1691 : BitVec 32 := 1#32
  let v1181 : BitVec 32 := Scalar.muli v7 c1_i32_1691
  let v1182 : BitVec 32 := Scalar.addi c0_i32_1692 v1181
  v1182.toNat
def k0_dev62 (d0 : Dev nD) : Nat :=
  let c0_i32_1704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1703 : BitVec 32 := 1#32
  let v1183 : BitVec 32 := Scalar.muli v5 c1_i32_1703
  let v1184 : BitVec 32 := Scalar.addi c0_i32_1704 v1183
  v1184.toNat
def k0_dev63 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1750 : BitVec 32 := 1#32
  let v1221 : BitVec 32 := Scalar.muli v5 c1_i32_1750
  let v1222 : BitVec 32 := Scalar.addi c0_i32_1751 v1221
  v1222.toNat
def k0_dev64 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1762 : BitVec 32 := 1#32
  let v1223 : BitVec 32 := Scalar.muli v7 c1_i32_1762
  let v1224 : BitVec 32 := Scalar.addi c0_i32_1763 v1223
  v1224.toNat
def k0_dev65 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1810 : BitVec 32 := 1#32
  let v1261 : BitVec 32 := Scalar.muli v7 c1_i32_1810
  let v1262 : BitVec 32 := Scalar.addi c0_i32_1811 v1261
  v1262.toNat
def k0_dev66 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1822 : BitVec 32 := 1#32
  let v1263 : BitVec 32 := Scalar.muli v5 c1_i32_1822
  let v1264 : BitVec 32 := Scalar.addi c0_i32_1823 v1263
  v1264.toNat
def k0_dev67 (d0 : Dev nD) : Nat :=
  let c0_i32_1871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1870 : BitVec 32 := 1#32
  let v1301 : BitVec 32 := Scalar.muli v5 c1_i32_1870
  let v1302 : BitVec 32 := Scalar.addi c0_i32_1871 v1301
  v1302.toNat
def k0_dev68 (d0 : Dev nD) : Nat :=
  let c0_i32_1883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1882 : BitVec 32 := 1#32
  let v1303 : BitVec 32 := Scalar.muli v7 c1_i32_1882
  let v1304 : BitVec 32 := Scalar.addi c0_i32_1883 v1303
  v1304.toNat
def k0_dev69 (d0 : Dev nD) : Nat :=
  let c0_i32_1931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1930 : BitVec 32 := 1#32
  let v1341 : BitVec 32 := Scalar.muli v7 c1_i32_1930
  let v1342 : BitVec 32 := Scalar.addi c0_i32_1931 v1341
  v1342.toNat
def k0_dev70 (d0 : Dev nD) : Nat :=
  let c0_i32_1943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1942 : BitVec 32 := 1#32
  let v1343 : BitVec 32 := Scalar.muli v5 c1_i32_1942
  let v1344 : BitVec 32 := Scalar.addi c0_i32_1943 v1343
  v1344.toNat
def k0_dev71 (d0 : Dev nD) : Nat :=
  let c0_i32_1991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1990 : BitVec 32 := 1#32
  let v1381 : BitVec 32 := Scalar.muli v5 c1_i32_1990
  let v1382 : BitVec 32 := Scalar.addi c0_i32_1991 v1381
  v1382.toNat
def k0_dev72 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2002 : BitVec 32 := 1#32
  let v1383 : BitVec 32 := Scalar.muli v7 c1_i32_2002
  let v1384 : BitVec 32 := Scalar.addi c0_i32_2003 v1383
  v1384.toNat
def k0_dev73 (d0 : Dev nD) : Nat :=
  let c0_i32_2051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2050 : BitVec 32 := 1#32
  let v1421 : BitVec 32 := Scalar.muli v7 c1_i32_2050
  let v1422 : BitVec 32 := Scalar.addi c0_i32_2051 v1421
  v1422.toNat
def k0_dev74 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2062 : BitVec 32 := 1#32
  let v1423 : BitVec 32 := Scalar.muli v5 c1_i32_2062
  let v1424 : BitVec 32 := Scalar.addi c0_i32_2063 v1423
  v1424.toNat
def k0_dev75 (d0 : Dev nD) : Nat :=
  let c0_i32_2111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2110 : BitVec 32 := 1#32
  let v1461 : BitVec 32 := Scalar.muli v5 c1_i32_2110
  let v1462 : BitVec 32 := Scalar.addi c0_i32_2111 v1461
  v1462.toNat
def k0_dev76 (d0 : Dev nD) : Nat :=
  let c0_i32_2123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2122 : BitVec 32 := 1#32
  let v1463 : BitVec 32 := Scalar.muli v7 c1_i32_2122
  let v1464 : BitVec 32 := Scalar.addi c0_i32_2123 v1463
  v1464.toNat
def k0_dev77 (d0 : Dev nD) : Nat :=
  let c0_i32_2171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2170 : BitVec 32 := 1#32
  let v1501 : BitVec 32 := Scalar.muli v7 c1_i32_2170
  let v1502 : BitVec 32 := Scalar.addi c0_i32_2171 v1501
  v1502.toNat
def k0_dev78 (d0 : Dev nD) : Nat :=
  let c0_i32_2183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2182 : BitVec 32 := 1#32
  let v1503 : BitVec 32 := Scalar.muli v5 c1_i32_2182
  let v1504 : BitVec 32 := Scalar.addi c0_i32_2183 v1503
  v1504.toNat
def k0_dev79 (d0 : Dev nD) : Nat :=
  let c0_i32_2231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2230 : BitVec 32 := 1#32
  let v1541 : BitVec 32 := Scalar.muli v5 c1_i32_2230
  let v1542 : BitVec 32 := Scalar.addi c0_i32_2231 v1541
  v1542.toNat
def k0_dev80 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2242 : BitVec 32 := 1#32
  let v1543 : BitVec 32 := Scalar.muli v7 c1_i32_2242
  let v1544 : BitVec 32 := Scalar.addi c0_i32_2243 v1543
  v1544.toNat
def k0_dev81 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2290 : BitVec 32 := 1#32
  let v1581 : BitVec 32 := Scalar.muli v7 c1_i32_2290
  let v1582 : BitVec 32 := Scalar.addi c0_i32_2291 v1581
  v1582.toNat
def k0_dev82 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2302 : BitVec 32 := 1#32
  let v1583 : BitVec 32 := Scalar.muli v5 c1_i32_2302
  let v1584 : BitVec 32 := Scalar.addi c0_i32_2303 v1583
  v1584.toNat
def k0_dev83 (d0 : Dev nD) : Nat :=
  let c0_i32_2351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2350 : BitVec 32 := 1#32
  let v1621 : BitVec 32 := Scalar.muli v5 c1_i32_2350
  let v1622 : BitVec 32 := Scalar.addi c0_i32_2351 v1621
  v1622.toNat
def k0_dev84 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2362 : BitVec 32 := 1#32
  let v1623 : BitVec 32 := Scalar.muli v7 c1_i32_2362
  let v1624 : BitVec 32 := Scalar.addi c0_i32_2363 v1623
  v1624.toNat
def k0_dev85 (d0 : Dev nD) : Nat :=
  let c0_i32_2411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2410 : BitVec 32 := 1#32
  let v1661 : BitVec 32 := Scalar.muli v7 c1_i32_2410
  let v1662 : BitVec 32 := Scalar.addi c0_i32_2411 v1661
  v1662.toNat
def k0_dev86 (d0 : Dev nD) : Nat :=
  let c0_i32_2423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2422 : BitVec 32 := 1#32
  let v1663 : BitVec 32 := Scalar.muli v5 c1_i32_2422
  let v1664 : BitVec 32 := Scalar.addi c0_i32_2423 v1663
  v1664.toNat
def k0_dev87 (d0 : Dev nD) : Nat :=
  let c0_i32_2471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2470 : BitVec 32 := 1#32
  let v1701 : BitVec 32 := Scalar.muli v5 c1_i32_2470
  let v1702 : BitVec 32 := Scalar.addi c0_i32_2471 v1701
  v1702.toNat
def k0_dev88 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2482 : BitVec 32 := 1#32
  let v1703 : BitVec 32 := Scalar.muli v7 c1_i32_2482
  let v1704 : BitVec 32 := Scalar.addi c0_i32_2483 v1703
  v1704.toNat
def k0_dev89 (d0 : Dev nD) : Nat :=
  let c0_i32_2531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2530 : BitVec 32 := 1#32
  let v1741 : BitVec 32 := Scalar.muli v7 c1_i32_2530
  let v1742 : BitVec 32 := Scalar.addi c0_i32_2531 v1741
  v1742.toNat
def k0_dev90 (d0 : Dev nD) : Nat :=
  let c0_i32_2543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2542 : BitVec 32 := 1#32
  let v1743 : BitVec 32 := Scalar.muli v5 c1_i32_2542
  let v1744 : BitVec 32 := Scalar.addi c0_i32_2543 v1743
  v1744.toNat
def k0_dev91 (d0 : Dev nD) : Nat :=
  let c0_i32_2591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2590 : BitVec 32 := 1#32
  let v1781 : BitVec 32 := Scalar.muli v5 c1_i32_2590
  let v1782 : BitVec 32 := Scalar.addi c0_i32_2591 v1781
  v1782.toNat
def k0_dev92 (d0 : Dev nD) : Nat :=
  let c0_i32_2603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2602 : BitVec 32 := 1#32
  let v1783 : BitVec 32 := Scalar.muli v7 c1_i32_2602
  let v1784 : BitVec 32 := Scalar.addi c0_i32_2603 v1783
  v1784.toNat
def k0_dev93 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2650 : BitVec 32 := 1#32
  let v1821 : BitVec 32 := Scalar.muli v7 c1_i32_2650
  let v1822 : BitVec 32 := Scalar.addi c0_i32_2651 v1821
  v1822.toNat
def k0_dev94 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2662 : BitVec 32 := 1#32
  let v1823 : BitVec 32 := Scalar.muli v5 c1_i32_2662
  let v1824 : BitVec 32 := Scalar.addi c0_i32_2663 v1823
  v1824.toNat
def k0_dev95 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2710 : BitVec 32 := 1#32
  let v1861 : BitVec 32 := Scalar.muli v5 c1_i32_2710
  let v1862 : BitVec 32 := Scalar.addi c0_i32_2711 v1861
  v1862.toNat
def k0_dev96 (d0 : Dev nD) : Nat :=
  let c0_i32_2723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2722 : BitVec 32 := 1#32
  let v1863 : BitVec 32 := Scalar.muli v7 c1_i32_2722
  let v1864 : BitVec 32 := Scalar.addi c0_i32_2723 v1863
  v1864.toNat
def k0_dev97 (d0 : Dev nD) : Nat :=
  let c0_i32_2771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2770 : BitVec 32 := 1#32
  let v1901 : BitVec 32 := Scalar.muli v7 c1_i32_2770
  let v1902 : BitVec 32 := Scalar.addi c0_i32_2771 v1901
  v1902.toNat
def k0_dev98 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2782 : BitVec 32 := 1#32
  let v1903 : BitVec 32 := Scalar.muli v5 c1_i32_2782
  let v1904 : BitVec 32 := Scalar.addi c0_i32_2783 v1903
  v1904.toNat
def k0_dev99 (d0 : Dev nD) : Nat :=
  let c0_i32_2831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2830 : BitVec 32 := 1#32
  let v1941 : BitVec 32 := Scalar.muli v5 c1_i32_2830
  let v1942 : BitVec 32 := Scalar.addi c0_i32_2831 v1941
  v1942.toNat
def k0_dev100 (d0 : Dev nD) : Nat :=
  let c0_i32_2843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2842 : BitVec 32 := 1#32
  let v1943 : BitVec 32 := Scalar.muli v7 c1_i32_2842
  let v1944 : BitVec 32 := Scalar.addi c0_i32_2843 v1943
  v1944.toNat
def k0_dev101 (d0 : Dev nD) : Nat :=
  let c0_i32_2891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2890 : BitVec 32 := 1#32
  let v1981 : BitVec 32 := Scalar.muli v7 c1_i32_2890
  let v1982 : BitVec 32 := Scalar.addi c0_i32_2891 v1981
  v1982.toNat
def k0_dev102 (d0 : Dev nD) : Nat :=
  let c0_i32_2903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2902 : BitVec 32 := 1#32
  let v1983 : BitVec 32 := Scalar.muli v5 c1_i32_2902
  let v1984 : BitVec 32 := Scalar.addi c0_i32_2903 v1983
  v1984.toNat
def k0_dev103 (d0 : Dev nD) : Nat :=
  let c0_i32_2951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2950 : BitVec 32 := 1#32
  let v2021 : BitVec 32 := Scalar.muli v5 c1_i32_2950
  let v2022 : BitVec 32 := Scalar.addi c0_i32_2951 v2021
  v2022.toNat
def k0_dev104 (d0 : Dev nD) : Nat :=
  let c0_i32_2963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2962 : BitVec 32 := 1#32
  let v2023 : BitVec 32 := Scalar.muli v7 c1_i32_2962
  let v2024 : BitVec 32 := Scalar.addi c0_i32_2963 v2023
  v2024.toNat
def k0_dev105 (d0 : Dev nD) : Nat :=
  let c0_i32_3011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3010 : BitVec 32 := 1#32
  let v2061 : BitVec 32 := Scalar.muli v7 c1_i32_3010
  let v2062 : BitVec 32 := Scalar.addi c0_i32_3011 v2061
  v2062.toNat
def k0_dev106 (d0 : Dev nD) : Nat :=
  let c0_i32_3023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3022 : BitVec 32 := 1#32
  let v2063 : BitVec 32 := Scalar.muli v5 c1_i32_3022
  let v2064 : BitVec 32 := Scalar.addi c0_i32_3023 v2063
  v2064.toNat
def k0_dev107 (d0 : Dev nD) : Nat :=
  let c0_i32_3071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3070 : BitVec 32 := 1#32
  let v2101 : BitVec 32 := Scalar.muli v5 c1_i32_3070
  let v2102 : BitVec 32 := Scalar.addi c0_i32_3071 v2101
  v2102.toNat
def k0_dev108 (d0 : Dev nD) : Nat :=
  let c0_i32_3083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3082 : BitVec 32 := 1#32
  let v2103 : BitVec 32 := Scalar.muli v7 c1_i32_3082
  let v2104 : BitVec 32 := Scalar.addi c0_i32_3083 v2103
  v2104.toNat
def k0_dev109 (d0 : Dev nD) : Nat :=
  let c0_i32_3131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3130 : BitVec 32 := 1#32
  let v2141 : BitVec 32 := Scalar.muli v7 c1_i32_3130
  let v2142 : BitVec 32 := Scalar.addi c0_i32_3131 v2141
  v2142.toNat
def k0_dev110 (d0 : Dev nD) : Nat :=
  let c0_i32_3143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3142 : BitVec 32 := 1#32
  let v2143 : BitVec 32 := Scalar.muli v5 c1_i32_3142
  let v2144 : BitVec 32 := Scalar.addi c0_i32_3143 v2143
  v2144.toNat
def k0_dev111 (d0 : Dev nD) : Nat :=
  let c0_i32_3191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3190 : BitVec 32 := 1#32
  let v2181 : BitVec 32 := Scalar.muli v5 c1_i32_3190
  let v2182 : BitVec 32 := Scalar.addi c0_i32_3191 v2181
  v2182.toNat
def k0_dev112 (d0 : Dev nD) : Nat :=
  let c0_i32_3203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3202 : BitVec 32 := 1#32
  let v2183 : BitVec 32 := Scalar.muli v7 c1_i32_3202
  let v2184 : BitVec 32 := Scalar.addi c0_i32_3203 v2183
  v2184.toNat
def k0_dev113 (d0 : Dev nD) : Nat :=
  let c0_i32_3251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3250 : BitVec 32 := 1#32
  let v2221 : BitVec 32 := Scalar.muli v7 c1_i32_3250
  let v2222 : BitVec 32 := Scalar.addi c0_i32_3251 v2221
  v2222.toNat
def k0_dev114 (d0 : Dev nD) : Nat :=
  let c0_i32_3263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3262 : BitVec 32 := 1#32
  let v2223 : BitVec 32 := Scalar.muli v5 c1_i32_3262
  let v2224 : BitVec 32 := Scalar.addi c0_i32_3263 v2223
  v2224.toNat
def k0_dev115 (d0 : Dev nD) : Nat :=
  let c0_i32_3311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3310 : BitVec 32 := 1#32
  let v2261 : BitVec 32 := Scalar.muli v5 c1_i32_3310
  let v2262 : BitVec 32 := Scalar.addi c0_i32_3311 v2261
  v2262.toNat
def k0_dev116 (d0 : Dev nD) : Nat :=
  let c0_i32_3323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3322 : BitVec 32 := 1#32
  let v2263 : BitVec 32 := Scalar.muli v7 c1_i32_3322
  let v2264 : BitVec 32 := Scalar.addi c0_i32_3323 v2263
  v2264.toNat
def k0_dev117 (d0 : Dev nD) : Nat :=
  let c0_i32_3371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3370 : BitVec 32 := 1#32
  let v2301 : BitVec 32 := Scalar.muli v7 c1_i32_3370
  let v2302 : BitVec 32 := Scalar.addi c0_i32_3371 v2301
  v2302.toNat
def k0_dev118 (d0 : Dev nD) : Nat :=
  let c0_i32_3383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3382 : BitVec 32 := 1#32
  let v2303 : BitVec 32 := Scalar.muli v5 c1_i32_3382
  let v2304 : BitVec 32 := Scalar.addi c0_i32_3383 v2303
  v2304.toNat
def k0_off2 (d0 : Dev nD) (c1_i32_3412 : BitVec 32) (c0_i32_3415 : BitVec 32) (c0_i32_3416 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2332 : BitVec 32 := Scalar.addi v2 c1_i32_3412
  let c16_i32_3413 : BitVec 32 := 16#32
  let v2333 : BitVec 32 := Scalar.remsi v2332 c16_i32_3413
  let c256_i32_3414 : BitVec 32 := 256#32
  let v2334 : BitVec 32 := Scalar.muli v2333 c256_i32_3414
  let v2335 : BitVec 32 := Scalar.addi v2334 c0_i32_3415
  let v2336 : BitVec 32 := Scalar.addi v2335 c0_i32_3416
  let c0_i32_3425 : BitVec 32 := 0#32
  ![v2336.toNat, 0]
def k0_off2_at (r : Fin 60) : BitVec 32 × BitVec 32 × BitVec 32 :=
  if r.val < 30 then
    if r.val < 15 then
      if r.val < 7 then
        if r.val < 3 then
          if r.val < 1 then
            (1#32, 0#32, 0#32)
          else
            if r.val < 2 then
              (15#32, 128#32, 0#32)
            else
              (1#32, 0#32, 64#32)
        else
          if r.val < 5 then
            if r.val < 4 then
              (15#32, 128#32, 64#32)
            else
              (0#32, 0#32, 0#32)
          else
            if r.val < 6 then
              (0#32, 128#32, 0#32)
            else
              (0#32, 0#32, 64#32)
      else
        if r.val < 11 then
          if r.val < 9 then
            if r.val < 8 then
              (0#32, 128#32, 64#32)
            else
              (15#32, 0#32, 0#32)
          else
            if r.val < 10 then
              (1#32, 128#32, 0#32)
            else
              (15#32, 0#32, 64#32)
        else
          if r.val < 13 then
            if r.val < 12 then
              (1#32, 128#32, 64#32)
            else
              (14#32, 0#32, 0#32)
          else
            if r.val < 14 then
              (2#32, 128#32, 0#32)
            else
              (14#32, 0#32, 64#32)
    else
      if r.val < 22 then
        if r.val < 18 then
          if r.val < 16 then
            (2#32, 128#32, 64#32)
          else
            if r.val < 17 then
              (13#32, 0#32, 0#32)
            else
              (3#32, 128#32, 0#32)
        else
          if r.val < 20 then
            if r.val < 19 then
              (13#32, 0#32, 64#32)
            else
              (3#32, 128#32, 64#32)
          else
            if r.val < 21 then
              (12#32, 0#32, 0#32)
            else
              (4#32, 128#32, 0#32)
      else
        if r.val < 26 then
          if r.val < 24 then
            if r.val < 23 then
              (12#32, 0#32, 64#32)
            else
              (4#32, 128#32, 64#32)
          else
            if r.val < 25 then
              (11#32, 0#32, 0#32)
            else
              (5#32, 128#32, 0#32)
        else
          if r.val < 28 then
            if r.val < 27 then
              (11#32, 0#32, 64#32)
            else
              (5#32, 128#32, 64#32)
          else
            if r.val < 29 then
              (10#32, 0#32, 0#32)
            else
              (6#32, 128#32, 0#32)
  else
    if r.val < 45 then
      if r.val < 37 then
        if r.val < 33 then
          if r.val < 31 then
            (10#32, 0#32, 64#32)
          else
            if r.val < 32 then
              (6#32, 128#32, 64#32)
            else
              (9#32, 0#32, 0#32)
        else
          if r.val < 35 then
            if r.val < 34 then
              (7#32, 128#32, 0#32)
            else
              (9#32, 0#32, 64#32)
          else
            if r.val < 36 then
              (7#32, 128#32, 64#32)
            else
              (8#32, 0#32, 0#32)
      else
        if r.val < 41 then
          if r.val < 39 then
            if r.val < 38 then
              (8#32, 128#32, 0#32)
            else
              (8#32, 0#32, 64#32)
          else
            if r.val < 40 then
              (8#32, 128#32, 64#32)
            else
              (7#32, 0#32, 0#32)
        else
          if r.val < 43 then
            if r.val < 42 then
              (9#32, 128#32, 0#32)
            else
              (7#32, 0#32, 64#32)
          else
            if r.val < 44 then
              (9#32, 128#32, 64#32)
            else
              (6#32, 0#32, 0#32)
    else
      if r.val < 52 then
        if r.val < 48 then
          if r.val < 46 then
            (10#32, 128#32, 0#32)
          else
            if r.val < 47 then
              (6#32, 0#32, 64#32)
            else
              (10#32, 128#32, 64#32)
        else
          if r.val < 50 then
            if r.val < 49 then
              (5#32, 0#32, 0#32)
            else
              (11#32, 128#32, 0#32)
          else
            if r.val < 51 then
              (5#32, 0#32, 64#32)
            else
              (11#32, 128#32, 64#32)
      else
        if r.val < 56 then
          if r.val < 54 then
            if r.val < 53 then
              (4#32, 0#32, 0#32)
            else
              (12#32, 128#32, 0#32)
          else
            if r.val < 55 then
              (4#32, 0#32, 64#32)
            else
              (12#32, 128#32, 64#32)
        else
          if r.val < 58 then
            if r.val < 57 then
              (3#32, 0#32, 0#32)
            else
              (13#32, 128#32, 0#32)
          else
            if r.val < 59 then
              (3#32, 0#32, 64#32)
            else
              (13#32, 128#32, 64#32)
def k0_dev119 (d0 : Dev nD) : Nat :=
  let c0_i32_3433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3432 : BitVec 32 := 1#32
  let v2357 : BitVec 32 := Scalar.muli v5 c1_i32_3432
  let v2358 : BitVec 32 := Scalar.addi c0_i32_3433 v2357
  v2358.toNat
def k0_dev120 (d0 : Dev nD) : Nat :=
  let c0_i32_3441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3440 : BitVec 32 := 1#32
  let v2359 : BitVec 32 := Scalar.muli v7 c1_i32_3440
  let v2360 : BitVec 32 := Scalar.addi c0_i32_3441 v2359
  v2360.toNat
def k0_dev121 (d0 : Dev nD) : Nat :=
  let c0_i32_3490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3489 : BitVec 32 := 1#32
  let v2411 : BitVec 32 := Scalar.muli v7 c1_i32_3489
  let v2412 : BitVec 32 := Scalar.addi c0_i32_3490 v2411
  v2412.toNat
def k0_dev122 (d0 : Dev nD) : Nat :=
  let c0_i32_3498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3497 : BitVec 32 := 1#32
  let v2413 : BitVec 32 := Scalar.muli v5 c1_i32_3497
  let v2414 : BitVec 32 := Scalar.addi c0_i32_3498 v2413
  v2414.toNat
def k0_dev123 (d0 : Dev nD) : Nat :=
  let c0_i32_3547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3546 : BitVec 32 := 1#32
  let v2465 : BitVec 32 := Scalar.muli v5 c1_i32_3546
  let v2466 : BitVec 32 := Scalar.addi c0_i32_3547 v2465
  v2466.toNat
def k0_dev124 (d0 : Dev nD) : Nat :=
  let c0_i32_3555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3554 : BitVec 32 := 1#32
  let v2467 : BitVec 32 := Scalar.muli v7 c1_i32_3554
  let v2468 : BitVec 32 := Scalar.addi c0_i32_3555 v2467
  v2468.toNat
def k0_dev125 (d0 : Dev nD) : Nat :=
  let c0_i32_3604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3603 : BitVec 32 := 1#32
  let v2519 : BitVec 32 := Scalar.muli v7 c1_i32_3603
  let v2520 : BitVec 32 := Scalar.addi c0_i32_3604 v2519
  v2520.toNat
def k0_dev126 (d0 : Dev nD) : Nat :=
  let c0_i32_3612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3611 : BitVec 32 := 1#32
  let v2521 : BitVec 32 := Scalar.muli v5 c1_i32_3611
  let v2522 : BitVec 32 := Scalar.addi c0_i32_3612 v2521
  v2522.toNat
def k0_dev127 (d0 : Dev nD) : Nat :=
  let c0_i32_3648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3647 : BitVec 32 := 1#32
  let v2555 : BitVec 32 := Scalar.muli v5 c1_i32_3647
  let v2556 : BitVec 32 := Scalar.addi c0_i32_3648 v2555
  v2556.toNat
def k0_dev128 (d0 : Dev nD) : Nat :=
  let c0_i32_3656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3655 : BitVec 32 := 1#32
  let v2557 : BitVec 32 := Scalar.muli v7 c1_i32_3655
  let v2558 : BitVec 32 := Scalar.addi c0_i32_3656 v2557
  v2558.toNat
def k0_dev129 (d0 : Dev nD) : Nat :=
  let c0_i32_3692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3691 : BitVec 32 := 1#32
  let v2591 : BitVec 32 := Scalar.muli v7 c1_i32_3691
  let v2592 : BitVec 32 := Scalar.addi c0_i32_3692 v2591
  v2592.toNat
def k0_dev130 (d0 : Dev nD) : Nat :=
  let c0_i32_3700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3699 : BitVec 32 := 1#32
  let v2593 : BitVec 32 := Scalar.muli v5 c1_i32_3699
  let v2594 : BitVec 32 := Scalar.addi c0_i32_3700 v2593
  v2594.toNat
def k0_dev131 (d0 : Dev nD) : Nat :=
  let c0_i32_3736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3735 : BitVec 32 := 1#32
  let v2627 : BitVec 32 := Scalar.muli v5 c1_i32_3735
  let v2628 : BitVec 32 := Scalar.addi c0_i32_3736 v2627
  v2628.toNat
def k0_dev132 (d0 : Dev nD) : Nat :=
  let c0_i32_3744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3743 : BitVec 32 := 1#32
  let v2629 : BitVec 32 := Scalar.muli v7 c1_i32_3743
  let v2630 : BitVec 32 := Scalar.addi c0_i32_3744 v2629
  v2630.toNat
def k0_dev133 (d0 : Dev nD) : Nat :=
  let c0_i32_3780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3779 : BitVec 32 := 1#32
  let v2663 : BitVec 32 := Scalar.muli v7 c1_i32_3779
  let v2664 : BitVec 32 := Scalar.addi c0_i32_3780 v2663
  v2664.toNat
def k0_dev134 (d0 : Dev nD) : Nat :=
  let c0_i32_3788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3787 : BitVec 32 := 1#32
  let v2665 : BitVec 32 := Scalar.muli v5 c1_i32_3787
  let v2666 : BitVec 32 := Scalar.addi c0_i32_3788 v2665
  v2666.toNat
def k0_dev135 (d0 : Dev nD) : Nat :=
  let c0_i32_3824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3823 : BitVec 32 := 1#32
  let v2699 : BitVec 32 := Scalar.muli v5 c1_i32_3823
  let v2700 : BitVec 32 := Scalar.addi c0_i32_3824 v2699
  v2700.toNat
def k0_dev136 (d0 : Dev nD) : Nat :=
  let c0_i32_3832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3831 : BitVec 32 := 1#32
  let v2701 : BitVec 32 := Scalar.muli v7 c1_i32_3831
  let v2702 : BitVec 32 := Scalar.addi c0_i32_3832 v2701
  v2702.toNat
def k0_dev137 (d0 : Dev nD) : Nat :=
  let c0_i32_3868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3867 : BitVec 32 := 1#32
  let v2735 : BitVec 32 := Scalar.muli v7 c1_i32_3867
  let v2736 : BitVec 32 := Scalar.addi c0_i32_3868 v2735
  v2736.toNat
def k0_dev138 (d0 : Dev nD) : Nat :=
  let c0_i32_3876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3875 : BitVec 32 := 1#32
  let v2737 : BitVec 32 := Scalar.muli v5 c1_i32_3875
  let v2738 : BitVec 32 := Scalar.addi c0_i32_3876 v2737
  v2738.toNat
def k0_dev139 (d0 : Dev nD) : Nat :=
  let c0_i32_3912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3911 : BitVec 32 := 1#32
  let v2771 : BitVec 32 := Scalar.muli v5 c1_i32_3911
  let v2772 : BitVec 32 := Scalar.addi c0_i32_3912 v2771
  v2772.toNat
def k0_dev140 (d0 : Dev nD) : Nat :=
  let c0_i32_3920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3919 : BitVec 32 := 1#32
  let v2773 : BitVec 32 := Scalar.muli v7 c1_i32_3919
  let v2774 : BitVec 32 := Scalar.addi c0_i32_3920 v2773
  v2774.toNat
def k0_dev141 (d0 : Dev nD) : Nat :=
  let c0_i32_3956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3955 : BitVec 32 := 1#32
  let v2807 : BitVec 32 := Scalar.muli v7 c1_i32_3955
  let v2808 : BitVec 32 := Scalar.addi c0_i32_3956 v2807
  v2808.toNat
def k0_dev142 (d0 : Dev nD) : Nat :=
  let c0_i32_3964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3963 : BitVec 32 := 1#32
  let v2809 : BitVec 32 := Scalar.muli v5 c1_i32_3963
  let v2810 : BitVec 32 := Scalar.addi c0_i32_3964 v2809
  v2810.toNat
def k0_dev143 (d0 : Dev nD) : Nat :=
  let c0_i32_4000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3999 : BitVec 32 := 1#32
  let v2843 : BitVec 32 := Scalar.muli v5 c1_i32_3999
  let v2844 : BitVec 32 := Scalar.addi c0_i32_4000 v2843
  v2844.toNat
def k0_dev144 (d0 : Dev nD) : Nat :=
  let c0_i32_4008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4007 : BitVec 32 := 1#32
  let v2845 : BitVec 32 := Scalar.muli v7 c1_i32_4007
  let v2846 : BitVec 32 := Scalar.addi c0_i32_4008 v2845
  v2846.toNat
def k0_dev145 (d0 : Dev nD) : Nat :=
  let c0_i32_4044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4043 : BitVec 32 := 1#32
  let v2879 : BitVec 32 := Scalar.muli v7 c1_i32_4043
  let v2880 : BitVec 32 := Scalar.addi c0_i32_4044 v2879
  v2880.toNat
def k0_dev146 (d0 : Dev nD) : Nat :=
  let c0_i32_4052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4051 : BitVec 32 := 1#32
  let v2881 : BitVec 32 := Scalar.muli v5 c1_i32_4051
  let v2882 : BitVec 32 := Scalar.addi c0_i32_4052 v2881
  v2882.toNat
def k0_dev147 (d0 : Dev nD) : Nat :=
  let c0_i32_4088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4087 : BitVec 32 := 1#32
  let v2915 : BitVec 32 := Scalar.muli v5 c1_i32_4087
  let v2916 : BitVec 32 := Scalar.addi c0_i32_4088 v2915
  v2916.toNat
def k0_dev148 (d0 : Dev nD) : Nat :=
  let c0_i32_4096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4095 : BitVec 32 := 1#32
  let v2917 : BitVec 32 := Scalar.muli v7 c1_i32_4095
  let v2918 : BitVec 32 := Scalar.addi c0_i32_4096 v2917
  v2918.toNat
def k0_dev149 (d0 : Dev nD) : Nat :=
  let c0_i32_4132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4131 : BitVec 32 := 1#32
  let v2951 : BitVec 32 := Scalar.muli v7 c1_i32_4131
  let v2952 : BitVec 32 := Scalar.addi c0_i32_4132 v2951
  v2952.toNat
def k0_dev150 (d0 : Dev nD) : Nat :=
  let c0_i32_4140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4139 : BitVec 32 := 1#32
  let v2953 : BitVec 32 := Scalar.muli v5 c1_i32_4139
  let v2954 : BitVec 32 := Scalar.addi c0_i32_4140 v2953
  v2954.toNat
def k0_dev151 (d0 : Dev nD) : Nat :=
  let c0_i32_4176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4175 : BitVec 32 := 1#32
  let v2987 : BitVec 32 := Scalar.muli v5 c1_i32_4175
  let v2988 : BitVec 32 := Scalar.addi c0_i32_4176 v2987
  v2988.toNat
def k0_dev152 (d0 : Dev nD) : Nat :=
  let c0_i32_4184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4183 : BitVec 32 := 1#32
  let v2989 : BitVec 32 := Scalar.muli v7 c1_i32_4183
  let v2990 : BitVec 32 := Scalar.addi c0_i32_4184 v2989
  v2990.toNat
def k0_dev153 (d0 : Dev nD) : Nat :=
  let c0_i32_4220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4219 : BitVec 32 := 1#32
  let v3023 : BitVec 32 := Scalar.muli v7 c1_i32_4219
  let v3024 : BitVec 32 := Scalar.addi c0_i32_4220 v3023
  v3024.toNat
def k0_dev154 (d0 : Dev nD) : Nat :=
  let c0_i32_4228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4227 : BitVec 32 := 1#32
  let v3025 : BitVec 32 := Scalar.muli v5 c1_i32_4227
  let v3026 : BitVec 32 := Scalar.addi c0_i32_4228 v3025
  v3026.toNat
def k0_dev155 (d0 : Dev nD) : Nat :=
  let c0_i32_4264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4263 : BitVec 32 := 1#32
  let v3059 : BitVec 32 := Scalar.muli v5 c1_i32_4263
  let v3060 : BitVec 32 := Scalar.addi c0_i32_4264 v3059
  v3060.toNat
def k0_dev156 (d0 : Dev nD) : Nat :=
  let c0_i32_4272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4271 : BitVec 32 := 1#32
  let v3061 : BitVec 32 := Scalar.muli v7 c1_i32_4271
  let v3062 : BitVec 32 := Scalar.addi c0_i32_4272 v3061
  v3062.toNat
def k0_dev157 (d0 : Dev nD) : Nat :=
  let c0_i32_4308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4307 : BitVec 32 := 1#32
  let v3095 : BitVec 32 := Scalar.muli v7 c1_i32_4307
  let v3096 : BitVec 32 := Scalar.addi c0_i32_4308 v3095
  v3096.toNat
def k0_dev158 (d0 : Dev nD) : Nat :=
  let c0_i32_4316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4315 : BitVec 32 := 1#32
  let v3097 : BitVec 32 := Scalar.muli v5 c1_i32_4315
  let v3098 : BitVec 32 := Scalar.addi c0_i32_4316 v3097
  v3098.toNat
def k0_dev159 (d0 : Dev nD) : Nat :=
  let c0_i32_4352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4351 : BitVec 32 := 1#32
  let v3131 : BitVec 32 := Scalar.muli v5 c1_i32_4351
  let v3132 : BitVec 32 := Scalar.addi c0_i32_4352 v3131
  v3132.toNat
def k0_dev160 (d0 : Dev nD) : Nat :=
  let c0_i32_4360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4359 : BitVec 32 := 1#32
  let v3133 : BitVec 32 := Scalar.muli v7 c1_i32_4359
  let v3134 : BitVec 32 := Scalar.addi c0_i32_4360 v3133
  v3134.toNat
def k0_dev161 (d0 : Dev nD) : Nat :=
  let c0_i32_4396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4395 : BitVec 32 := 1#32
  let v3167 : BitVec 32 := Scalar.muli v7 c1_i32_4395
  let v3168 : BitVec 32 := Scalar.addi c0_i32_4396 v3167
  v3168.toNat
def k0_dev162 (d0 : Dev nD) : Nat :=
  let c0_i32_4404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4403 : BitVec 32 := 1#32
  let v3169 : BitVec 32 := Scalar.muli v5 c1_i32_4403
  let v3170 : BitVec 32 := Scalar.addi c0_i32_4404 v3169
  v3170.toNat
def k0_dev163 (d0 : Dev nD) : Nat :=
  let c0_i32_4440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4439 : BitVec 32 := 1#32
  let v3203 : BitVec 32 := Scalar.muli v5 c1_i32_4439
  let v3204 : BitVec 32 := Scalar.addi c0_i32_4440 v3203
  v3204.toNat
def k0_dev164 (d0 : Dev nD) : Nat :=
  let c0_i32_4448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4447 : BitVec 32 := 1#32
  let v3205 : BitVec 32 := Scalar.muli v7 c1_i32_4447
  let v3206 : BitVec 32 := Scalar.addi c0_i32_4448 v3205
  v3206.toNat
def k0_dev165 (d0 : Dev nD) : Nat :=
  let c0_i32_4484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4483 : BitVec 32 := 1#32
  let v3239 : BitVec 32 := Scalar.muli v7 c1_i32_4483
  let v3240 : BitVec 32 := Scalar.addi c0_i32_4484 v3239
  v3240.toNat
def k0_dev166 (d0 : Dev nD) : Nat :=
  let c0_i32_4492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4491 : BitVec 32 := 1#32
  let v3241 : BitVec 32 := Scalar.muli v5 c1_i32_4491
  let v3242 : BitVec 32 := Scalar.addi c0_i32_4492 v3241
  v3242.toNat
def k0_dev167 (d0 : Dev nD) : Nat :=
  let c0_i32_4528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4527 : BitVec 32 := 1#32
  let v3275 : BitVec 32 := Scalar.muli v5 c1_i32_4527
  let v3276 : BitVec 32 := Scalar.addi c0_i32_4528 v3275
  v3276.toNat
def k0_dev168 (d0 : Dev nD) : Nat :=
  let c0_i32_4536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4535 : BitVec 32 := 1#32
  let v3277 : BitVec 32 := Scalar.muli v7 c1_i32_4535
  let v3278 : BitVec 32 := Scalar.addi c0_i32_4536 v3277
  v3278.toNat
def k0_dev169 (d0 : Dev nD) : Nat :=
  let c0_i32_4572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4571 : BitVec 32 := 1#32
  let v3311 : BitVec 32 := Scalar.muli v7 c1_i32_4571
  let v3312 : BitVec 32 := Scalar.addi c0_i32_4572 v3311
  v3312.toNat
def k0_dev170 (d0 : Dev nD) : Nat :=
  let c0_i32_4580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4579 : BitVec 32 := 1#32
  let v3313 : BitVec 32 := Scalar.muli v5 c1_i32_4579
  let v3314 : BitVec 32 := Scalar.addi c0_i32_4580 v3313
  v3314.toNat
def k0_dev171 (d0 : Dev nD) : Nat :=
  let c0_i32_4616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4615 : BitVec 32 := 1#32
  let v3347 : BitVec 32 := Scalar.muli v5 c1_i32_4615
  let v3348 : BitVec 32 := Scalar.addi c0_i32_4616 v3347
  v3348.toNat
def k0_dev172 (d0 : Dev nD) : Nat :=
  let c0_i32_4624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4623 : BitVec 32 := 1#32
  let v3349 : BitVec 32 := Scalar.muli v7 c1_i32_4623
  let v3350 : BitVec 32 := Scalar.addi c0_i32_4624 v3349
  v3350.toNat
def k0_dev173 (d0 : Dev nD) : Nat :=
  let c0_i32_4660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4659 : BitVec 32 := 1#32
  let v3383 : BitVec 32 := Scalar.muli v7 c1_i32_4659
  let v3384 : BitVec 32 := Scalar.addi c0_i32_4660 v3383
  v3384.toNat
def k0_dev174 (d0 : Dev nD) : Nat :=
  let c0_i32_4668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4667 : BitVec 32 := 1#32
  let v3385 : BitVec 32 := Scalar.muli v5 c1_i32_4667
  let v3386 : BitVec 32 := Scalar.addi c0_i32_4668 v3385
  v3386.toNat
def k0_dev175 (d0 : Dev nD) : Nat :=
  let c0_i32_4704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4703 : BitVec 32 := 1#32
  let v3419 : BitVec 32 := Scalar.muli v5 c1_i32_4703
  let v3420 : BitVec 32 := Scalar.addi c0_i32_4704 v3419
  v3420.toNat
def k0_dev176 (d0 : Dev nD) : Nat :=
  let c0_i32_4712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4711 : BitVec 32 := 1#32
  let v3421 : BitVec 32 := Scalar.muli v7 c1_i32_4711
  let v3422 : BitVec 32 := Scalar.addi c0_i32_4712 v3421
  v3422.toNat
def k0_dev177 (d0 : Dev nD) : Nat :=
  let c0_i32_4748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4747 : BitVec 32 := 1#32
  let v3455 : BitVec 32 := Scalar.muli v7 c1_i32_4747
  let v3456 : BitVec 32 := Scalar.addi c0_i32_4748 v3455
  v3456.toNat
def k0_dev178 (d0 : Dev nD) : Nat :=
  let c0_i32_4756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4755 : BitVec 32 := 1#32
  let v3457 : BitVec 32 := Scalar.muli v5 c1_i32_4755
  let v3458 : BitVec 32 := Scalar.addi c0_i32_4756 v3457
  v3458.toNat
def k0_dev179 (d0 : Dev nD) : Nat :=
  let c0_i32_4792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4791 : BitVec 32 := 1#32
  let v3491 : BitVec 32 := Scalar.muli v5 c1_i32_4791
  let v3492 : BitVec 32 := Scalar.addi c0_i32_4792 v3491
  v3492.toNat
def k0_dev180 (d0 : Dev nD) : Nat :=
  let c0_i32_4800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4799 : BitVec 32 := 1#32
  let v3493 : BitVec 32 := Scalar.muli v7 c1_i32_4799
  let v3494 : BitVec 32 := Scalar.addi c0_i32_4800 v3493
  v3494.toNat
def k0_dev181 (d0 : Dev nD) : Nat :=
  let c0_i32_4836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4835 : BitVec 32 := 1#32
  let v3527 : BitVec 32 := Scalar.muli v7 c1_i32_4835
  let v3528 : BitVec 32 := Scalar.addi c0_i32_4836 v3527
  v3528.toNat
def k0_dev182 (d0 : Dev nD) : Nat :=
  let c0_i32_4844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4843 : BitVec 32 := 1#32
  let v3529 : BitVec 32 := Scalar.muli v5 c1_i32_4843
  let v3530 : BitVec 32 := Scalar.addi c0_i32_4844 v3529
  v3530.toNat
def k0_dev183 (d0 : Dev nD) : Nat :=
  let c0_i32_4880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4879 : BitVec 32 := 1#32
  let v3563 : BitVec 32 := Scalar.muli v5 c1_i32_4879
  let v3564 : BitVec 32 := Scalar.addi c0_i32_4880 v3563
  v3564.toNat
def k0_dev184 (d0 : Dev nD) : Nat :=
  let c0_i32_4888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4887 : BitVec 32 := 1#32
  let v3565 : BitVec 32 := Scalar.muli v7 c1_i32_4887
  let v3566 : BitVec 32 := Scalar.addi c0_i32_4888 v3565
  v3566.toNat
def k0_dev185 (d0 : Dev nD) : Nat :=
  let c0_i32_4924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4923 : BitVec 32 := 1#32
  let v3599 : BitVec 32 := Scalar.muli v7 c1_i32_4923
  let v3600 : BitVec 32 := Scalar.addi c0_i32_4924 v3599
  v3600.toNat
def k0_dev186 (d0 : Dev nD) : Nat :=
  let c0_i32_4932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4931 : BitVec 32 := 1#32
  let v3601 : BitVec 32 := Scalar.muli v5 c1_i32_4931
  let v3602 : BitVec 32 := Scalar.addi c0_i32_4932 v3601
  v3602.toNat
def k0_dev187 (d0 : Dev nD) : Nat :=
  let c0_i32_4968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4967 : BitVec 32 := 1#32
  let v3635 : BitVec 32 := Scalar.muli v5 c1_i32_4967
  let v3636 : BitVec 32 := Scalar.addi c0_i32_4968 v3635
  v3636.toNat
def k0_dev188 (d0 : Dev nD) : Nat :=
  let c0_i32_4976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4975 : BitVec 32 := 1#32
  let v3637 : BitVec 32 := Scalar.muli v7 c1_i32_4975
  let v3638 : BitVec 32 := Scalar.addi c0_i32_4976 v3637
  v3638.toNat
def k0_dev189 (d0 : Dev nD) : Nat :=
  let c0_i32_5012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5011 : BitVec 32 := 1#32
  let v3671 : BitVec 32 := Scalar.muli v7 c1_i32_5011
  let v3672 : BitVec 32 := Scalar.addi c0_i32_5012 v3671
  v3672.toNat
def k0_dev190 (d0 : Dev nD) : Nat :=
  let c0_i32_5020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5019 : BitVec 32 := 1#32
  let v3673 : BitVec 32 := Scalar.muli v5 c1_i32_5019
  let v3674 : BitVec 32 := Scalar.addi c0_i32_5020 v3673
  v3674.toNat
def k0_dev191 (d0 : Dev nD) : Nat :=
  let c0_i32_5056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5055 : BitVec 32 := 1#32
  let v3707 : BitVec 32 := Scalar.muli v5 c1_i32_5055
  let v3708 : BitVec 32 := Scalar.addi c0_i32_5056 v3707
  v3708.toNat
def k0_dev192 (d0 : Dev nD) : Nat :=
  let c0_i32_5064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5063 : BitVec 32 := 1#32
  let v3709 : BitVec 32 := Scalar.muli v7 c1_i32_5063
  let v3710 : BitVec 32 := Scalar.addi c0_i32_5064 v3709
  v3710.toNat
def k0_dev193 (d0 : Dev nD) : Nat :=
  let c0_i32_5100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5099 : BitVec 32 := 1#32
  let v3743 : BitVec 32 := Scalar.muli v7 c1_i32_5099
  let v3744 : BitVec 32 := Scalar.addi c0_i32_5100 v3743
  v3744.toNat
def k0_dev194 (d0 : Dev nD) : Nat :=
  let c0_i32_5108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5107 : BitVec 32 := 1#32
  let v3745 : BitVec 32 := Scalar.muli v5 c1_i32_5107
  let v3746 : BitVec 32 := Scalar.addi c0_i32_5108 v3745
  v3746.toNat
def k0_dev195 (d0 : Dev nD) : Nat :=
  let c0_i32_5144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5143 : BitVec 32 := 1#32
  let v3779 : BitVec 32 := Scalar.muli v5 c1_i32_5143
  let v3780 : BitVec 32 := Scalar.addi c0_i32_5144 v3779
  v3780.toNat
def k0_dev196 (d0 : Dev nD) : Nat :=
  let c0_i32_5152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5151 : BitVec 32 := 1#32
  let v3781 : BitVec 32 := Scalar.muli v7 c1_i32_5151
  let v3782 : BitVec 32 := Scalar.addi c0_i32_5152 v3781
  v3782.toNat
def k0_dev197 (d0 : Dev nD) : Nat :=
  let c0_i32_5188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5187 : BitVec 32 := 1#32
  let v3815 : BitVec 32 := Scalar.muli v7 c1_i32_5187
  let v3816 : BitVec 32 := Scalar.addi c0_i32_5188 v3815
  v3816.toNat
def k0_dev198 (d0 : Dev nD) : Nat :=
  let c0_i32_5196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5195 : BitVec 32 := 1#32
  let v3817 : BitVec 32 := Scalar.muli v5 c1_i32_5195
  let v3818 : BitVec 32 := Scalar.addi c0_i32_5196 v3817
  v3818.toNat
def k0_dev199 (d0 : Dev nD) : Nat :=
  let c0_i32_5232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5231 : BitVec 32 := 1#32
  let v3851 : BitVec 32 := Scalar.muli v5 c1_i32_5231
  let v3852 : BitVec 32 := Scalar.addi c0_i32_5232 v3851
  v3852.toNat
def k0_dev200 (d0 : Dev nD) : Nat :=
  let c0_i32_5240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5239 : BitVec 32 := 1#32
  let v3853 : BitVec 32 := Scalar.muli v7 c1_i32_5239
  let v3854 : BitVec 32 := Scalar.addi c0_i32_5240 v3853
  v3854.toNat
def k0_dev201 (d0 : Dev nD) : Nat :=
  let c0_i32_5276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5275 : BitVec 32 := 1#32
  let v3887 : BitVec 32 := Scalar.muli v7 c1_i32_5275
  let v3888 : BitVec 32 := Scalar.addi c0_i32_5276 v3887
  v3888.toNat
def k0_dev202 (d0 : Dev nD) : Nat :=
  let c0_i32_5284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5283 : BitVec 32 := 1#32
  let v3889 : BitVec 32 := Scalar.muli v5 c1_i32_5283
  let v3890 : BitVec 32 := Scalar.addi c0_i32_5284 v3889
  v3890.toNat
def k0_dev203 (d0 : Dev nD) : Nat :=
  let c0_i32_5320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5319 : BitVec 32 := 1#32
  let v3923 : BitVec 32 := Scalar.muli v5 c1_i32_5319
  let v3924 : BitVec 32 := Scalar.addi c0_i32_5320 v3923
  v3924.toNat
def k0_dev204 (d0 : Dev nD) : Nat :=
  let c0_i32_5328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5327 : BitVec 32 := 1#32
  let v3925 : BitVec 32 := Scalar.muli v7 c1_i32_5327
  let v3926 : BitVec 32 := Scalar.addi c0_i32_5328 v3925
  v3926.toNat
def k0_dev205 (d0 : Dev nD) : Nat :=
  let c0_i32_5364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5363 : BitVec 32 := 1#32
  let v3959 : BitVec 32 := Scalar.muli v7 c1_i32_5363
  let v3960 : BitVec 32 := Scalar.addi c0_i32_5364 v3959
  v3960.toNat
def k0_dev206 (d0 : Dev nD) : Nat :=
  let c0_i32_5372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5371 : BitVec 32 := 1#32
  let v3961 : BitVec 32 := Scalar.muli v5 c1_i32_5371
  let v3962 : BitVec 32 := Scalar.addi c0_i32_5372 v3961
  v3962.toNat
def k0_dev207 (d0 : Dev nD) : Nat :=
  let c0_i32_5408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5407 : BitVec 32 := 1#32
  let v3995 : BitVec 32 := Scalar.muli v5 c1_i32_5407
  let v3996 : BitVec 32 := Scalar.addi c0_i32_5408 v3995
  v3996.toNat
def k0_dev208 (d0 : Dev nD) : Nat :=
  let c0_i32_5416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5415 : BitVec 32 := 1#32
  let v3997 : BitVec 32 := Scalar.muli v7 c1_i32_5415
  let v3998 : BitVec 32 := Scalar.addi c0_i32_5416 v3997
  v3998.toNat
def k0_dev209 (d0 : Dev nD) : Nat :=
  let c0_i32_5452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5451 : BitVec 32 := 1#32
  let v4031 : BitVec 32 := Scalar.muli v7 c1_i32_5451
  let v4032 : BitVec 32 := Scalar.addi c0_i32_5452 v4031
  v4032.toNat
def k0_dev210 (d0 : Dev nD) : Nat :=
  let c0_i32_5460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5459 : BitVec 32 := 1#32
  let v4033 : BitVec 32 := Scalar.muli v5 c1_i32_5459
  let v4034 : BitVec 32 := Scalar.addi c0_i32_5460 v4033
  v4034.toNat
def k0_dev211 (d0 : Dev nD) : Nat :=
  let c0_i32_5496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5495 : BitVec 32 := 1#32
  let v4067 : BitVec 32 := Scalar.muli v5 c1_i32_5495
  let v4068 : BitVec 32 := Scalar.addi c0_i32_5496 v4067
  v4068.toNat
def k0_dev212 (d0 : Dev nD) : Nat :=
  let c0_i32_5504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5503 : BitVec 32 := 1#32
  let v4069 : BitVec 32 := Scalar.muli v7 c1_i32_5503
  let v4070 : BitVec 32 := Scalar.addi c0_i32_5504 v4069
  v4070.toNat
def k0_dev213 (d0 : Dev nD) : Nat :=
  let c0_i32_5540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5539 : BitVec 32 := 1#32
  let v4103 : BitVec 32 := Scalar.muli v7 c1_i32_5539
  let v4104 : BitVec 32 := Scalar.addi c0_i32_5540 v4103
  v4104.toNat
def k0_dev214 (d0 : Dev nD) : Nat :=
  let c0_i32_5548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5547 : BitVec 32 := 1#32
  let v4105 : BitVec 32 := Scalar.muli v5 c1_i32_5547
  let v4106 : BitVec 32 := Scalar.addi c0_i32_5548 v4105
  v4106.toNat
def k0_dev215 (d0 : Dev nD) : Nat :=
  let c0_i32_5584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5583 : BitVec 32 := 1#32
  let v4139 : BitVec 32 := Scalar.muli v5 c1_i32_5583
  let v4140 : BitVec 32 := Scalar.addi c0_i32_5584 v4139
  v4140.toNat
def k0_dev216 (d0 : Dev nD) : Nat :=
  let c0_i32_5592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5591 : BitVec 32 := 1#32
  let v4141 : BitVec 32 := Scalar.muli v7 c1_i32_5591
  let v4142 : BitVec 32 := Scalar.addi c0_i32_5592 v4141
  v4142.toNat
def k0_dev217 (d0 : Dev nD) : Nat :=
  let c0_i32_5628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5627 : BitVec 32 := 1#32
  let v4175 : BitVec 32 := Scalar.muli v7 c1_i32_5627
  let v4176 : BitVec 32 := Scalar.addi c0_i32_5628 v4175
  v4176.toNat
def k0_dev218 (d0 : Dev nD) : Nat :=
  let c0_i32_5636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5635 : BitVec 32 := 1#32
  let v4177 : BitVec 32 := Scalar.muli v5 c1_i32_5635
  let v4178 : BitVec 32 := Scalar.addi c0_i32_5636 v4177
  v4178.toNat
def k0_dev219 (d0 : Dev nD) : Nat :=
  let c0_i32_5672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5671 : BitVec 32 := 1#32
  let v4211 : BitVec 32 := Scalar.muli v5 c1_i32_5671
  let v4212 : BitVec 32 := Scalar.addi c0_i32_5672 v4211
  v4212.toNat
def k0_dev220 (d0 : Dev nD) : Nat :=
  let c0_i32_5680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5679 : BitVec 32 := 1#32
  let v4213 : BitVec 32 := Scalar.muli v7 c1_i32_5679
  let v4214 : BitVec 32 := Scalar.addi c0_i32_5680 v4213
  v4214.toNat
def k0_dev221 (d0 : Dev nD) : Nat :=
  let c0_i32_5716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5715 : BitVec 32 := 1#32
  let v4247 : BitVec 32 := Scalar.muli v7 c1_i32_5715
  let v4248 : BitVec 32 := Scalar.addi c0_i32_5716 v4247
  v4248.toNat
def k0_dev222 (d0 : Dev nD) : Nat :=
  let c0_i32_5724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5723 : BitVec 32 := 1#32
  let v4249 : BitVec 32 := Scalar.muli v5 c1_i32_5723
  let v4250 : BitVec 32 := Scalar.addi c0_i32_5724 v4249
  v4250.toNat
def k0_dev223 (d0 : Dev nD) : Nat :=
  let c0_i32_5760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5759 : BitVec 32 := 1#32
  let v4283 : BitVec 32 := Scalar.muli v5 c1_i32_5759
  let v4284 : BitVec 32 := Scalar.addi c0_i32_5760 v4283
  v4284.toNat
def k0_dev224 (d0 : Dev nD) : Nat :=
  let c0_i32_5768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5767 : BitVec 32 := 1#32
  let v4285 : BitVec 32 := Scalar.muli v7 c1_i32_5767
  let v4286 : BitVec 32 := Scalar.addi c0_i32_5768 v4285
  v4286.toNat
def k0_dev225 (d0 : Dev nD) : Nat :=
  let c0_i32_5804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5803 : BitVec 32 := 1#32
  let v4319 : BitVec 32 := Scalar.muli v7 c1_i32_5803
  let v4320 : BitVec 32 := Scalar.addi c0_i32_5804 v4319
  v4320.toNat
def k0_dev226 (d0 : Dev nD) : Nat :=
  let c0_i32_5812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5811 : BitVec 32 := 1#32
  let v4321 : BitVec 32 := Scalar.muli v5 c1_i32_5811
  let v4322 : BitVec 32 := Scalar.addi c0_i32_5812 v4321
  v4322.toNat
def k0_dev227 (d0 : Dev nD) : Nat :=
  let c0_i32_5848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5847 : BitVec 32 := 1#32
  let v4355 : BitVec 32 := Scalar.muli v5 c1_i32_5847
  let v4356 : BitVec 32 := Scalar.addi c0_i32_5848 v4355
  v4356.toNat
def k0_dev228 (d0 : Dev nD) : Nat :=
  let c0_i32_5856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5855 : BitVec 32 := 1#32
  let v4357 : BitVec 32 := Scalar.muli v7 c1_i32_5855
  let v4358 : BitVec 32 := Scalar.addi c0_i32_5856 v4357
  v4358.toNat
def k0_dev229 (d0 : Dev nD) : Nat :=
  let c0_i32_5892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5891 : BitVec 32 := 1#32
  let v4391 : BitVec 32 := Scalar.muli v7 c1_i32_5891
  let v4392 : BitVec 32 := Scalar.addi c0_i32_5892 v4391
  v4392.toNat
def k0_dev230 (d0 : Dev nD) : Nat :=
  let c0_i32_5900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5899 : BitVec 32 := 1#32
  let v4393 : BitVec 32 := Scalar.muli v5 c1_i32_5899
  let v4394 : BitVec 32 := Scalar.addi c0_i32_5900 v4393
  v4394.toNat
def k0_dev231 (d0 : Dev nD) : Nat :=
  let c0_i32_5941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5940 : BitVec 32 := 1#32
  let v4427 : BitVec 32 := Scalar.muli v7 c1_i32_5940
  let v4428 : BitVec 32 := Scalar.addi c0_i32_5941 v4427
  v4428.toNat
def k0_dev232 (d0 : Dev nD) : Nat :=
  let c0_i32_5982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5981 : BitVec 32 := 1#32
  let v4461 : BitVec 32 := Scalar.muli v5 c1_i32_5981
  let v4462 : BitVec 32 := Scalar.addi c0_i32_5982 v4461
  v4462.toNat
def k0_dev233 (d0 : Dev nD) : Nat :=
  let c0_i32_6023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6022 : BitVec 32 := 1#32
  let v4495 : BitVec 32 := Scalar.muli v7 c1_i32_6022
  let v4496 : BitVec 32 := Scalar.addi c0_i32_6023 v4495
  v4496.toNat
def k0_dev234 (d0 : Dev nD) : Nat :=
  let c0_i32_6064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6063 : BitVec 32 := 1#32
  let v4529 : BitVec 32 := Scalar.muli v5 c1_i32_6063
  let v4530 : BitVec 32 := Scalar.addi c0_i32_6064 v4529
  v4530.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S16x4096x1024 : Shape := ⟨3, ![16, 4096, 1024]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.KernelRun.ProgEq.lean ====
/-
The printed body is the composed one.
-/
module

public import proofs.«01_k».proof.Proof.KernelRun.Prog

@[expose] public section

noncomputable section

namespace Cert.Kernel.Run

open Idealize.ShloMosaic Idealize.SL.Sem Cert.Kernel Cert.Kernel.Gen

variable {F : FTy → Type} [FloatOps F]

set_option maxRecDepth 65536 in
/-- The printed body, on the buffers the launch gives it, is the composed program. -/
theorem body_eq (t : Fin cfg0.N) : bodyAt0 (F := F) t = body := by
  obtain rfl := fin_N0 t
  chain_rfl

end Cert.Kernel.Run

end
-- ==== Proof.KernelIdealRun.Prog.lean ====
/-
The kernel's body written once per lane step.

The printed body is a straight line of 840 operations. Here the same program is composed of a few pieces, each
over the ring direction `d` (0 towards the right, 1 towards the left), the half `j` of that direction's rows and
the number `q` of the copy, in continuation form, and the printed body is that program by definition.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.Regions

@[expose] public section

noncomputable section

namespace Cert.KernelIdeal.Run

open Idealize.ShloMosaic Idealize.SL.Sem Cert.KernelIdeal Cert.KernelIdeal.Gen

variable {F : FTy → Type} [FloatOps F]

/-! ## The buffers and the semaphores of a direction -/

abbrev xM : Memref sig .tc .vmem S4096x1024 .f32 := Memref.whole cc0_stg0_0
abbrev oM : Memref sig .tc .vmem S4096x1024 .f32 := Memref.whole cc0_stg1_0

/-- The send slots of direction `d`. -/
def sbM : Fin 2 → Memref sig .tc .vmem S2x2x64x1024 .f32
  | 0 => Memref.whole cc0_scratch0
  | 1 => Memref.whole cc0_scratch2

/-- The landing slots of direction `d`. -/
def rbM : Fin 2 → Memref sig .tc .vmem S2x2x64x1024 .f32
  | 0 => Memref.whole cc0_scratch1
  | 1 => Memref.whole cc0_scratch3

def ssA : Fin 2 → DmaSems sig S2x2
  | 0 => cc0_scratch4
  | 1 => cc0_scratch6

def rsA : Fin 2 → DmaSems sig S2x2
  | 0 => cc0_scratch5
  | 1 => cc0_scratch7

/-- The credit semaphore of direction `d`. -/
def crS : Fin 2 → Sem sig
  | 0 => cc0_scratch8.sem
  | 1 => cc0_scratch9.sem

def barS : Sem sig := (SemArray.scalar (sig.barrier 0 rfl) : Sems sig S_).sem

theorem inb4 : ∀ (j p : Fin 2), ∀ a, (![j.val, p.val, 0, 0] : Fin 4 → Nat) a + S1x1x64x1024.size a ≤
    S2x2x64x1024.size a := by decide

theorem inb2 : ∀ (j p : Fin 2), ∀ a, (![j.val, p.val] : Fin 2 → Nat) a + S1x1.size a ≤ S2x2.size a := by decide

/-- Slot `j, p` of a pair of slots, as a rectangle of the scratch buffer. -/
abbrev slotR (j p : Fin 2) : Rect S2x2x64x1024 :=
  Rect.unit (s := S2x2x64x1024) ![j.val, p.val, 0, 0] S1x1x64x1024.size (inb4 j p)

/-- Slot `j, p` as the copies name it. -/
abbrev slotV (m : Memref sig .tc .vmem S2x2x64x1024 .f32) (j p : Fin 2) : Memref sig .tc .vmem S64x1024 .f32 :=
  (m.slice (slotR j p) (fun _ => rfl)).squeeze S64x1024 squeezes_S1x1x64x1024_S64x1024

abbrev semAt (a : DmaSems sig S2x2) (j p : Fin 2) : DmaSem sig :=
  ((a.slice (Rect.unit (s := S2x2) ![j.val, p.val] S1x1.size (inb2 j p))).squeeze S_ squeezes_S1x1_S_).sem

/-- The send semaphore of lane `d, j` and parity `p`, and its receive semaphore. -/
def ss (d j p : Fin 2) : DmaSem sig := semAt (ssA d) j p
def rs (d j p : Fin 2) : DmaSem sig := semAt (rsA d) j p

/-- The offset from its own number of the chunk copy `q` carries. -/
def ca (d : Fin 2) (q : ℕ) : Fin 16 :=
  match d with
  | 0 => ⟨(32 - q) % 16, Nat.mod_lt _ (by decide)⟩
  | 1 => ⟨q % 16, Nat.mod_lt _ (by decide)⟩

/-- The rows of half `j` of direction `d` of chunk `a` after device `c`'s own. -/
abbrev rowsR (c : Dev nD) (a : Fin 16) (d j : Fin 2) : Rect S4096x1024 :=
  Rect.unit (s := S4096x1024)
    (k0_off1 c (BitVec.ofNat 32 a.val) (BitVec.ofNat 32 (128 * d.val)) (BitVec.ofNat 32 (64 * j.val)))
    S64x1024.size (k0_off1_inb c a d j)

abbrev rowsV (c : Dev nD) (a : Fin 16) (d j : Fin 2) : Memref sig .tc .vmem S64x1024 .f32 :=
  oM.slice (rowsR c a d j) (fun _ => rfl)

/-- The device direction `d` sends to, and the one it receives from. -/
def toD (d : Fin 2) (c : Dev nD) : Dev nD :=
  match d with
  | 0 => ⟨k0_dev2 c, k0_dev2_lt c⟩
  | 1 => ⟨k0_dev1 c, k0_dev1_lt c⟩

def frD (d : Fin 2) (c : Dev nD) : Dev nD :=
  match d with
  | 0 => ⟨k0_dev1 c, k0_dev1_lt c⟩
  | 1 => ⟨k0_dev2 c, k0_dev2_lt c⟩

def par (q : ℕ) : Fin 2 := ⟨q % 2, Nat.mod_lt _ (by decide)⟩

/-! ## The values -/

/-- A block of rows put in a slot. -/
def toSlot (v : FVec F S64x1024 .f32) : FVec F S1x1x64x1024 .f32 :=
  shapeCast S1x1x64x1024 v shapeCasts_S64x1024_S1x1x64x1024

/-- What is in a slot as a block of rows. -/
def ofSlot (v : Vec F S1x1x64x1024 .f32) : FVec F S64x1024 .f32 :=
  shapeCast S64x1024 v shapeCasts_S1x1x64x1024_S64x1024

def ofRows (v : Vec F S64x1024 .f32) : FVec F S64x1024 .f32 := shapeCast S64x1024 v shapeCasts_S64x1024_S64x1024

/-- What arrived, with the device's own rows added. -/
def accOf (v : Vec F S1x1x64x1024 .f32) (x : Vec F S64x1024 .f32) : FVec F S64x1024 .f32 :=
  addf (ofSlot v) (ofRows x)

/-- The function applied to the finished sum. -/
def fOf (s : FVec F S64x1024 .f32) : FVec F S64x1024 .f32 :=
  have r : FVec F S64x1024 .f32 := maximumf s (broadcast S64x1024 (Scalar.ofBits .f32 0x00000000#32))
  addf (mulf (mulf (tanh s) s) s) (mulf (mulf r r) r)

/-! ## The pieces -/

abbrev P (F : FTy → Type) [FloatOps F] := Prog (TpuEff nD τ sig (Elt F) Λ₀ .tc) PUnit

def ldSlot (m : Memref sig .tc .vmem S2x2x64x1024 .f32) (j p : Fin 2) (k : Vec F S1x1x64x1024 .f32 → P F) : P F :=
  .op (.load m (slotR j p).toLoadRect (View.loadsAt_vmem h_S1x1x64x1024)) k

def stSlot (m : Memref sig .tc .vmem S2x2x64x1024 .f32) (j p : Fin 2) (v : FVec F S1x1x64x1024 .f32) (k : P F) : P F :=
  .op (.store m (slotR j p) v Finset.univ (View.stores_vmem_bits_univ h_S1x1x64x1024 rfl) (.inl rfl)) fun _ => k

def ldRows (m : Memref sig .tc .vmem S4096x1024 .f32) (c : Dev nD) (a : Fin 16) (d j : Fin 2)
    (k : Vec F S64x1024 .f32 → P F) : P F :=
  .op (.load m (rowsR c a d j).toLoadRect (View.loadsAt_vmem h_S64x1024)) k

def stRows (m : Memref sig .tc .vmem S4096x1024 .f32) (c : Dev nD) (a : Fin 16) (d j : Fin 2)
    (v : FVec F S64x1024 .f32) (k : P F) : P F :=
  .op (.store m (rowsR c a d j) v Finset.univ (View.stores_vmem_bits_univ h_S64x1024 rfl) (.inl rfl)) fun _ => k

theorem wexV (m : Memref sig .tc .vmem S2x2x64x1024 .f32) (j p : Fin 2) : (slotV m j p).view.WordExact :=
  (View.wordExact_bits rfl).reshape _ _

/-- Start copy `q` of the reduce-scatter. -/
def sendRS (c : Dev nD) (d j p : Fin 2) (k : P F) : P F :=
  .op (.enqueueDma (slotV (sbM d) j p) (.remote (Dev.tc (toD d c)) (slotV (rbM d) j p) (.dma (ss d j p)))
    (.dma (rs d j p)) (wexV _ j p) (wexV _ j p) ⟨⟨rfl, Or.inl rfl⟩, trivial⟩) fun _ => k

/-- Start copy `q` of the all-gather. -/
def sendAG (c : Dev nD) (a : Fin 16) (d j p : Fin 2) (k : P F) : P F :=
  .op (.enqueueDma (rowsV c a d j) (.remote (Dev.tc (toD d c)) (rowsV c a d j) (.dma (ss d j p)))
    (.dma (rs d j p)) (View.wordExact_bits rfl) (View.wordExact_bits rfl) ⟨⟨rfl, Or.inl rfl⟩, trivial⟩) fun _ => k

/-- Wait on `s` for a transfer between slots, or for one between rows. -/
def waitSlots (s : DmaSem sig) (m m' : Memref sig .tc .vmem S2x2x64x1024 .f32) (j p : Fin 2) (k : P F) : P F :=
  .op (.waitDma2 s (slotV m j p) (slotV m' j p) (wexV _ j p) (wexV _ j p)) fun _ => k

def waitRows (s : DmaSem sig) (c : Dev nD) (a : Fin 16) (d j : Fin 2) (k : P F) : P F :=
  .op (.waitDma2 s (rowsV c a d j) (rowsV c a d j) (View.wordExact_bits rfl) (View.wordExact_bits rfl)) fun _ => k

def signalTo (n : Dev nD) (s : Sem sig) (k : P F) : P F := .op (.semSignal (Dev.tc n) s ((1 : ℕ) : ℤ)) fun _ => k

def waitFor (s : Sem sig) (n : ℕ) (k : P F) : P F := .op (.semWait s (n : ℤ)) fun _ => k

/-! ## The steps of a lane -/

/-- Copy 0: the device's own rows, unchanged. -/
def step0 (c : Dev nD) (d j : Fin 2) (k : P F) : P F :=
  ldRows xM c (ca d 0) d j fun x =>
  ldSlot (sbM d) j 0 fun _ =>
  stSlot (sbM d) j 0 (toSlot (ofRows x)) (sendRS c d j 0 k)

/-- Copy 1: no earlier copy used its slot, and no credit is awaited. -/
def step1 (c : Dev nD) (d j : Fin 2) (k : P F) : P F :=
  waitSlots (rs d j 0) (sbM d) (rbM d) j 0 <|
  ldSlot (rbM d) j 0 fun v =>
  ldRows xM c (ca d 1) d j fun x =>
  ldSlot (sbM d) j 1 fun _ =>
  stSlot (sbM d) j 1 (toSlot (accOf v x)) <|
  signalTo (frD d c) (crS d) (sendRS c d j 1 k)

/-- Copies 2 to 14. -/
def stepR (c : Dev nD) (q : ℕ) (d j : Fin 2) (k : P F) : P F :=
  waitSlots (rs d j (par (q - 1))) (sbM d) (rbM d) j (par (q - 1)) <|
  ldSlot (rbM d) j (par (q - 1)) fun v =>
  ldRows xM c (ca d q) d j fun x =>
  waitSlots (ss d j (par q)) (rbM d) (sbM d) j (par q) <|
  ldSlot (sbM d) j (par q) fun _ =>
  stSlot (sbM d) j (par q) (toSlot (accOf v x)) <|
  signalTo (frD d c) (crS d) <| waitFor (crS d) 1 (sendRS c d j (par q) k)

/-- Copy 15, the first of the all-gather: the finished rows. -/
def step15 (c : Dev nD) (d j : Fin 2) (k : P F) : P F :=
  waitSlots (rs d j 0) (sbM d) (rbM d) j 0 <|
  ldSlot (rbM d) j 0 fun v =>
  ldRows xM c (ca d 15) d j fun x =>
  waitRows (ss d j 1) c (ca d 15) d j <|
  ldRows oM c (ca d 15) d j fun _ =>
  stRows oM c (ca d 15) d j (fOf (accOf v x)) <|
  signalTo (frD d c) (crS d) <| waitFor (crS d) 1 (sendAG c (ca d 15) d j 1 k)

/-- Copies 16 to 28. -/
def stepA (c : Dev nD) (q : ℕ) (d j : Fin 2) (k : P F) : P F :=
  waitRows (rs d j (par (q - 1))) c (ca d (q - 1)) d j <|
  waitRows (ss d j (par q)) c (ca d q) d j <|
  signalTo (frD d c) (crS d) <| waitFor (crS d) 1 (sendAG c (ca d q) d j (par q) k)

/-- Copy 29, the last. -/
def step29 (c : Dev nD) (d j : Fin 2) (k : P F) : P F :=
  waitRows (rs d j 0) c (ca d 28) d j <|
  waitRows (ss d j 1) c (ca d 29) d j <|
  waitFor (crS d) 1 (sendAG c (ca d 29) d j 1 k)

/-- The last waits of a lane. -/
def fin (c : Dev nD) (d j : Fin 2) (k : P F) : P F :=
  waitRows (rs d j 1) c (ca d 29) d j <|
  waitRows (ss d j 0) c (ca d 28) d j <|
  waitRows (ss d j 1) c (ca d 29) d j k

/-- One stage of the four lanes in their order. -/
def lanes (f : Fin 2 → Fin 2 → P F → P F) (k : P F) : P F := f 0 0 (f 1 0 (f 0 1 (f 1 1 k)))

/-- `n` stages from copy `q`. -/
def stages (f : ℕ → Fin 2 → Fin 2 → P F → P F) : ℕ → ℕ → P F → P F
  | 0, _, k => k
  | n + 1, q, k => lanes (f q) (stages f n (q + 1) k)

/-- The handshake at entry. -/
def entry (c : Dev nD) (k : P F) : P F :=
  signalTo (frD 0 c) barS <| signalTo (toD 0 c) barS <| waitFor barS 2 k

/-- The whole body. -/
def body : P F :=
  .op .deviceId fun c => entry c <| lanes (step0 c) <| lanes (step1 c) <| stages (stepR c) 13 2 <|
    lanes (step15 c) <| stages (stepA c) 13 16 <| lanes (step29 c) <| lanes (fin c) <| .ret ⟨⟩

end Cert.KernelIdeal.Run

end
-- ==== Proof.KernelIdealRun.Sched.lean ====
/-
The protocol of the rings: the neighbours, the contents of every copy, the cells with their rounds, duties and
payloads, what each device owes, and the levels of the waits.

Copy `q` of lane `d, j` leaves every device `c` towards `nx d c` and lands on the receive cell of its parity, round
`q / 2`. Up to copy 14 it carries a partial sum, from copy 15 on finished rows.
-/
module

public import proofs.«01_k».proof.Proof.KernelIdealRun.Prog
public import Idealize.ShloMosaic.Lib.Rounds
public import Idealize.ShloMosaic.Lib.Release
public import Idealize.ShloMosaic.Lib.Pipeline.Launch
public import Idealize.ShloMosaic.Lib.Pipeline.Kit

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost state -/

/-- A landing slot: the device it is on, its direction, half and parity. -/
abbrev SKey : Type := Dev nD × Fin 2 × Fin 2 × Fin 2
abbrev UB : Type := URounds (GSem nD τ sig) ℕ
abbrev US : Type := USlots SKey
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The ring -/

set_option backward.proofsInPublic true in
def nx (d : Fin 2) (c : Dev nD) : Dev nD :=
  match d with
  | 0 => ⟨(c.val + 1) % 16, Nat.mod_lt _ (by decide)⟩
  | 1 => ⟨(c.val + 15) % 16, Nat.mod_lt _ (by decide)⟩

set_option backward.proofsInPublic true in
def pv (d : Fin 2) (c : Dev nD) : Dev nD :=
  match d with
  | 0 => ⟨(c.val + 15) % 16, Nat.mod_lt _ (by decide)⟩
  | 1 => ⟨(c.val + 1) % 16, Nat.mod_lt _ (by decide)⟩

theorem pv_nx (d : Fin 2) (c : Dev nD) : pv d (nx d c) = c := by revert d c; decide
theorem nx_pv (d : Fin 2) (c : Dev nD) : nx d (pv d c) = c := by revert d c; decide

theorem toD_eq (d : Fin 2) (c : Dev nD) : toD d c = nx d c := by
  match d with
  | 0 => exact Fin.ext (k0_dev2_eq c)
  | 1 => exact Fin.ext (k0_dev1_eq c)

theorem frD_eq (d : Fin 2) (c : Dev nD) : frD d c = pv d c := by
  match d with
  | 0 => exact Fin.ext (k0_dev1_eq c)
  | 1 => exact Fin.ext (k0_dev2_eq c)

/-- The chunk copy `q` carries, as the device `c` it leaves counts. -/
def ch (c : Dev nD) (d : Fin 2) (q : ℕ) : Fin 16 := ⟨(c.val + (ca d q).val) % 16, Nat.mod_lt _ (by decide)⟩

/-- The chunk a copy carries is the same where it left and where it landed. -/
theorem ch_pv (c : Dev nD) (d : Fin 2) (q : ℕ) (h : q ≤ 31) : ch (pv d c) d q = ch c d (q + 1) := by
  match d with
  | 0 => refine Fin.ext ?_; simp only [ch, ca, pv]; omega
  | 1 => refine Fin.ext ?_; simp only [ch, ca, pv]; omega

theorem inbN : ∀ (k : Fin 16) (d j : Fin 2), ∀ a,
    (![256 * k.val + 128 * d.val + 64 * j.val, 0] : Fin 2 → Nat) a + S64x1024.size a ≤ S4096x1024.size a := by decide

/-- The rows of lane `d, j` of chunk `k`. -/
def rowN (k : Fin 16) (d j : Fin 2) : Rect S4096x1024 :=
  Rect.unit (s := S4096x1024) ![256 * k.val + 128 * d.val + 64 * j.val, 0] S64x1024.size (inbN k d j)

abbrev rowM (k : Fin 16) (d j : Fin 2) : Memref sig .tc .vmem S64x1024 .f32 := oM.slice (rowN k d j) (fun _ => rfl)

theorem off_eq (c : Dev nD) (d j : Fin 2) (q : ℕ) :
    k0_off1 c (BitVec.ofNat 32 (ca d q).val) (BitVec.ofNat 32 (128 * d.val)) (BitVec.ofNat 32 (64 * j.val))
      = ![256 * (ch c d q).val + 128 * d.val + 64 * j.val, 0] := k0_off1_eq c (ca d q) d j

theorem slice_congr {o o' : Fin 2 → ℕ} (h : o = o') (i : ∀ a, o a + S64x1024.size a ≤ S4096x1024.size a)
    (i' : ∀ a, o' a + S64x1024.size a ≤ S4096x1024.size a) :
    (oM.slice (Rect.unit (s := S4096x1024) o S64x1024.size i) (fun _ => rfl) : Memref sig .tc .vmem S64x1024 .f32)
      = oM.slice (Rect.unit (s := S4096x1024) o' S64x1024.size i') (fun _ => rfl) := by subst h; rfl

theorem rowsV_eq (c : Dev nD) (d j : Fin 2) (q : ℕ) : rowsV c (ca d q) d j = rowM (ch c d q) d j :=
  slice_congr (off_eq c d j q) _ _

theorem rowsR_eq (c : Dev nD) (d j : Fin 2) (q : ℕ) : rowsR c (ca d q) d j = rowN (ch c d q) d j := by
  unfold rowN rowsR
  congr 1
  exact off_eq c d j q

/-! ## The contents -/

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- A device's block, as its staging buffer holds it. -/
def xstg (c : Dev nD) : (cc0_stg0_0 : Ref sig .tc).ty.Contents (Elt F) :=
  (win0_0.blk t0_0).view.read (Elt F) ((s₀ m ρ).mem ((c : Thread nD τ).loc main_arg0))

/-- The rows of lane `d, j` of chunk `k` of device `c`'s block. -/
def xr (c : Dev nD) (k : Fin 16) (d j : Fin 2) : FVec F S64x1024 .f32 :=
  ofRows (xM.view.readAt (Elt F) (rowN k d j).toLoadRect (xstg m ρ c))

/-- What copy `q` of lane `d, j` carries when it leaves device `c`. -/
def val (d j : Fin 2) : ℕ → Dev nD → FVec F S64x1024 .f32
  | 0, c => xr m ρ c (ch c d 0) d j
  | q + 1, c =>
    if q + 1 ≤ 14 then addf (val d j q (pv d c)) (xr m ρ c (ch c d (q + 1)) d j)
    else if q + 1 = 15 then fOf (addf (val d j q (pv d c)) (xr m ρ c (ch c d (q + 1)) d j))
    else val d j q (pv d c)

theorem val_sum (d j : Fin 2) (q : ℕ) (c : Dev nD) (h : q + 1 ≤ 14) :
    val m ρ d j (q + 1) c = addf (val m ρ d j q (pv d c)) (xr m ρ c (ch c d (q + 1)) d j) := by
  rw [val, if_pos h]

theorem val_fin (d j : Fin 2) (c : Dev nD) :
    val m ρ d j 15 c = fOf (addf (val m ρ d j 14 (pv d c)) (xr m ρ c (ch c d 15) d j)) := by
  rw [val, if_neg (by decide), if_pos rfl]

theorem val_pass (d j : Fin 2) (q : ℕ) (c : Dev nD) (h : 15 ≤ q) :
    val m ρ d j (q + 1) c = val m ρ d j q (pv d c) := by
  rw [val, if_neg (by omega), if_neg (by omega)]

/-! ## The cells -/

/-- The semaphores a device owns in the protocol. -/
inductive CK where
  | bar
  | cr (d : Fin 2)
  | sd (d j p : Fin 2)
  | rv (d j p : Fin 2)
deriving DecidableEq

/-- Those the kernel allocates, and the barrier beside them. -/
abbrev OK : Type := Fin 2 ⊕ (Fin 2 × Fin 2 × Fin 2) ⊕ (Fin 2 × Fin 2 × Fin 2)

def ckEquiv : Option OK ≃ CK where
  toFun
    | none => .bar
    | some (.inl d) => .cr d
    | some (.inr (.inl x)) => .sd x.1 x.2.1 x.2.2
    | some (.inr (.inr x)) => .rv x.1 x.2.1 x.2.2
  invFun
    | .bar => none
    | .cr d => some (.inl d)
    | .sd d j p => some (.inr (.inl (d, j, p)))
    | .rv d j p => some (.inr (.inr (d, j, p)))
  left_inv := by rintro (_ | _ | _ | _) <;> rfl
  right_inv := by rintro (_ | _ | _ | _) <;> rfl

instance : Fintype CK := Fintype.ofEquiv _ ckEquiv

def csem : CK → SemLoc sig
  | .bar => .reg barS
  | .cr d => .reg (crS d)
  | .sd d j p => .dma (ss d j p)
  | .rv d j p => .dma (rs d j p)

set_option backward.proofsInPublic true in
/-- Which of them a semaphore is. -/
def kind : SemLoc sig → Option CK
  | .reg s => if s.val = 2 then some .bar else some (.cr ⟨s.val % 2, Nat.mod_lt _ (by decide)⟩)
  | .dma s =>
    if s.val < 2 then none else
      let i := s.val - 2
      let d : Fin 2 := ⟨i / 8 % 2, Nat.mod_lt _ (by decide)⟩
      let j : Fin 2 := ⟨i / 2 % 2, Nat.mod_lt _ (by decide)⟩
      let p : Fin 2 := ⟨i % 2, Nat.mod_lt _ (by decide)⟩
      if i / 4 % 2 = 0 then some (.sd d j p) else some (.rv d j p)

theorem kind_csem (k : CK) : kind (csem k) = some k := by revert k; decide

theorem csem_injective : Function.Injective csem := fun a b h => by
  have := congrArg kind h; rw [kind_csem, kind_csem] at this; exact Option.some.inj this

abbrev cell (c : Dev nD) (k : CK) : GSem nD τ sig := ((c : Thread nD τ), csem k)

/-- The cells copy `q` of lane `d, j` credits where it lands and where it left. -/
abbrev rvC (c : Dev nD) (d j : Fin 2) (q : ℕ) : GSem nD τ sig := cell c (.rv d j (par q))
abbrev sdC (c : Dev nD) (d j : Fin 2) (q : ℕ) : GSem nD τ sig := cell c (.sd d j (par q))

/-- The units of a copy. -/
abbrev N : ℕ := (slotV (sbM 0) 0 0).view.dmaCredit

theorem N_pos : 0 < N := View.dmaCredit_pos _ (by decide)

theorem N_slot (m : Memref sig .tc .vmem S2x2x64x1024 .f32) (j p : Fin 2) : (slotV m j p).view.dmaCredit = N := rfl
theorem N_row (k : Fin 16) (d j : Fin 2) : (rowM k d j).view.dmaCredit = N := rfl

/-! ## The payloads -/

/-- Lane `d, j`'s slot of parity `p`, at any contents. -/
def slotAny (b : Fin 2 → Memref sig .tc .vmem S2x2x64x1024 .f32) (c : Dev nD) (d j p : Fin 2) : sProp 𝕄 :=
  iprop(∃ v, owns (c : Thread nD τ) (slotV (b d) j p) fullShare v)

/-- A landing slot. -/
abbrev rbS (x : SKey) : sProp 𝕄 := slotAny rbM x.1 x.2.1 x.2.2.1 x.2.2.2

/-- Rows of the result, holding `v`; -/
def rowIs (c : Dev nD) (k : Fin 16) (d j : Fin 2) (v : FVec F S64x1024 .f32) : sProp 𝕄 :=
  owns (c : Thread nD τ) (rowM k d j) fullShare v
/-- and at any contents. -/
def rowAny (c : Dev nD) (k : Fin 16) (d j : Fin 2) : sProp 𝕄 := iprop(∃ v, rowIs (F := F) c k d j v)

/-- What a device's barrier signal hands the neighbour before it: that its landing slots of direction `d` are free, and
    the rows of its result the neighbour's copies of finished rows land in. -/
def grant (d : Fin 2) (c : Dev nD) : sProp 𝕄 :=
  iprop(bigSep (Finset.univ : Finset (Fin 2 × Fin 2)) (fun x => released ES ((nx d c, d, x.1, x.2) : SKey) 1)
    ∗ bigSep (Finset.univ : Finset (Fin 2)) (fun j => bigSep (Finset.Ico 15 30) (fun q => rowAny (F := F) (nx d c) (ch c d q) d j)))

/-- What credit `i` of device `c` says: the receive cell it is about has reached its next round, and while partial sums
    travel its landing slot is free again. -/
def fact (d : Fin 2) (c : Dev nD) (i : ℕ) : sProp 𝕄 :=
  iprop(reached ER (cell c (.rv d (par i) (par (i / 2)))) (i / 4 + 1)
    ∗ (if i < 30 then released ES ((c, d, par i, par (i / 2)) : SKey) (i / 4 + 2) else iprop(emp)))

/-- What the send cell hands back when copy `q` has left: -/
def sdPay (c : Dev nD) (d j : Fin 2) (q : ℕ) : sProp 𝕄 :=
  if q ≤ 14 then slotAny sbM c d j (par q) else rowIs c (ch c d q) d j (val m ρ d j q c)

/-- and the receive cell when copy `q` has landed. -/
def rvPay (c : Dev nD) (d j : Fin 2) (q : ℕ) : sProp 𝕄 :=
  if q ≤ 14 then owns (c : Thread nD τ) (slotV (rbM d) j (par q)) fullShare (val m ρ d j q (pv d c))
  else rowIs c (ch c d (q + 1)) d j (val m ρ d j q (pv d c))

def pay (c : Dev nD) (r i : ℕ) : CK → sProp 𝕄
  | .bar => grant (F := F) (par i) c
  | .cr d => bigSep (Finset.range (i + 1)) (fact (F := F) d (nx d c))
  | .sd d j p => sdPay m ρ c d j (2 * r + p.val)
  | .rv d j p => rvPay m ρ c d j (2 * r + p.val)

instance slotAny_storable (b : Fin 2 → Memref sig .tc .vmem S2x2x64x1024 .f32) (c : Dev nD) (d j p : Fin 2) :
    BI.Storable (upEmb : UEmb _ 𝕄) (slotAny (F := F) b c d j p) := by unfold slotAny; infer_instance
instance rowIs_storable (c : Dev nD) (k : Fin 16) (d j : Fin 2) (v : FVec F S64x1024 .f32) :
    BI.Storable (upEmb : UEmb _ 𝕄) (rowIs c k d j v) := by unfold rowIs; infer_instance
instance rowAny_storable (c : Dev nD) (k : Fin 16) (d j : Fin 2) :
    BI.Storable (upEmb : UEmb _ 𝕄) (rowAny (F := F) c k d j) := by unfold rowAny; infer_instance
instance grant_storable (d : Fin 2) (c : Dev nD) : BI.Storable (upEmb : UEmb _ 𝕄) (grant (F := F) d c) := by
  unfold grant; infer_instance
instance fact_storable (d : Fin 2) (c : Dev nD) (i : ℕ) : BI.Storable (upEmb : UEmb _ 𝕄) (fact (F := F) d c i) := by
  unfold fact; split <;> infer_instance
instance fact_persistent (d : Fin 2) (c : Dev nD) (i : ℕ) : BI.Persistent (fact (F := F) d c i) := by
  unfold fact; split <;> infer_instance
instance sdPay_storable (c : Dev nD) (d j : Fin 2) (q : ℕ) : BI.Storable (upEmb : UEmb _ 𝕄) (sdPay (F := F) m ρ c d j q) := by
  unfold sdPay; split <;> infer_instance
instance rvPay_storable (c : Dev nD) (d j : Fin 2) (q : ℕ) : BI.Storable (upEmb : UEmb _ 𝕄) (rvPay (F := F) m ρ c d j q) := by
  unfold rvPay; split <;> infer_instance
instance pay_storable (c : Dev nD) (r i : ℕ) (k : CK) : BI.Storable (upEmb : UEmb _ 𝕄) (pay (F := F) m ρ c r i k) := by
  cases k <;> (unfold pay; infer_instance)

/-! ## The schedule -/

/-- The duties of a cell's round: the two neighbours' barrier signals, the credits of the whole run in one round, one
    copy a round. -/
def dutiesOf (r : ℕ) : CK → Finset ℕ
  | .bar => if r < 1 then Finset.range 2 else ∅
  | .cr _ => if r < 1 then Finset.range 56 else ∅
  | .sd _ _ _ => if r < 15 then Finset.range 1 else ∅
  | .rv _ _ _ => if r < 15 then Finset.range 1 else ∅

def amountOf : CK → ℕ
  | .bar => 1
  | .cr _ => 1
  | .sd _ _ _ => N
  | .rv _ _ _ => N

/-- The kind of a cell of a device's main core. -/
def kindOf (g : GSem nD τ sig) : Option CK := if g.1.2 = .tc then kind g.2 else none

theorem kindOf_cell (c : Dev nD) (k : CK) : kindOf (cell c k) = some k := by
  unfold kindOf; rw [if_pos rfl]; exact kind_csem k

theorem amountOf_pos (k : CK) : 0 < amountOf k := by cases k <;> first | exact Nat.one_pos | exact N_pos

def Rd : Rounds.Schedule (GSem nD τ sig) ℕ 𝕄 where
  duties g r := (kindOf g).elim ∅ (dutiesOf r)
  unitless _ := False
  amount g _ _ := (kindOf g).elim 1 amountOf
  payload g r i := (kindOf g).elim iprop(emp) (pay m ρ g.1.1 r i)
  amount_pos g _ _ _ := by
    cases kindOf g with
    | none => exact Nat.one_pos
    | some k => exact amountOf_pos k

instance Rd_payload_storable (g : GSem nD τ sig) (r : ℕ) (i : ℕ) :
    BI.Storable (upEmb : UEmb _ 𝕄) ((Rd (F := F) m ρ).payload g r i) := by
  show BI.Storable upEmb ((kindOf g).elim iprop(emp) (pay m ρ g.1.1 r i))
  cases kindOf g with
  | none => show BI.Storable upEmb iprop(emp); infer_instance
  | some k => show BI.Storable upEmb (pay m ρ g.1.1 r i k); infer_instance

theorem duties_cell (c : Dev nD) (k : CK) (r : ℕ) : (Rd (F := F) m ρ).duties (cell c k) r = dutiesOf r k := by
  dsimp only [Rd]; rw [kindOf_cell]; rfl
theorem amount_cell (c : Dev nD) (k : CK) (r i : ℕ) : (Rd (F := F) m ρ).amount (cell c k) r i = amountOf k := by
  dsimp only [Rd]; rw [kindOf_cell]; rfl
theorem payload_cell (c : Dev nD) (k : CK) (r i : ℕ) : (Rd (F := F) m ρ).payload (cell c k) r i = pay m ρ c r i k := by
  dsimp only [Rd]; rw [kindOf_cell]; rfl
theorem expect_cell (c : Dev nD) (k : CK) (r : ℕ) :
    (Rd (F := F) m ρ).expect (cell c k) r = (dutiesOf r k).card * amountOf k := by
  unfold Schedule.expect Schedule.amountOf
  rw [duties_cell, Finset.sum_congr rfl fun i _ => amount_cell m ρ c k r i, Finset.sum_const, smul_eq_mul]

theorem duties_later (c : Dev nD) (k : CK) (r : ℕ) (h : 15 ≤ r) : (Rd (F := F) m ρ).duties (cell c k) r = ∅ := by
  rw [duties_cell]; cases k <;> exact if_neg (by omega)

/-- One copy a round: the duties, the units and the payload of a copy's cells. -/
theorem duties_rv (c : Dev nD) (d j p : Fin 2) (r : ℕ) (h : r < 15) :
    (Rd (F := F) m ρ).duties (cell c (.rv d j p)) r = {0} := by rw [duties_cell]; exact if_pos h
theorem duties_sd (c : Dev nD) (d j p : Fin 2) (r : ℕ) (h : r < 15) :
    (Rd (F := F) m ρ).duties (cell c (.sd d j p)) r = {0} := by rw [duties_cell]; exact if_pos h
theorem expect_rv (c : Dev nD) (d j p : Fin 2) (r : ℕ) (h : r < 15) :
    (Rd (F := F) m ρ).expect (cell c (.rv d j p)) r = N := by
  rw [expect_cell]; show (if r < 15 then Finset.range 1 else ∅ : Finset ℕ).card * N = N
  rw [if_pos h, Finset.card_range, Nat.one_mul]
theorem expect_sd (c : Dev nD) (d j p : Fin 2) (r : ℕ) (h : r < 15) :
    (Rd (F := F) m ρ).expect (cell c (.sd d j p)) r = N := by
  rw [expect_cell]; show (if r < 15 then Finset.range 1 else ∅ : Finset ℕ).card * N = N
  rw [if_pos h, Finset.card_range, Nat.one_mul]

theorem par_val (q : ℕ) : 2 * (q / 2) + (par q).val = q := by show 2 * (q / 2) + q % 2 = q; omega

theorem payload_rv (c : Dev nD) (d j : Fin 2) (q i : ℕ) :
    (Rd (F := F) m ρ).payload (rvC c d j q) (q / 2) i = rvPay m ρ c d j q := by
  rw [payload_cell]; show rvPay m ρ c d j (2 * (q / 2) + (par q).val) = _; rw [par_val]
theorem payload_sd (c : Dev nD) (d j : Fin 2) (q i : ℕ) :
    (Rd (F := F) m ρ).payload (sdC c d j q) (q / 2) i = sdPay m ρ c d j q := by
  rw [payload_cell]; show sdPay m ρ c d j (2 * (q / 2) + (par q).val) = _; rw [par_val]

theorem duties_cr (c : Dev nD) (d : Fin 2) : (Rd (F := F) m ρ).duties (cell c (.cr d)) 0 = Finset.range 56 := duties_cell m ρ c _ 0
theorem duties_bar (c : Dev nD) : (Rd (F := F) m ρ).duties (cell c .bar) 0 = Finset.range 2 := duties_cell m ρ c _ 0
theorem expect_cr (c : Dev nD) (d : Fin 2) : (Rd (F := F) m ρ).expect (cell c (.cr d)) 0 = 56 := by
  rw [expect_cell]; rfl
theorem expect_bar (c : Dev nD) : (Rd (F := F) m ρ).expect (cell c .bar) 0 = 2 := by
  rw [expect_cell]; rfl

/-- Cells of one parity are the same two steps on. -/
theorem par_add_two (q : ℕ) : par (q + 2) = par q := Fin.ext (Nat.add_mod_right q 2)

/-! ## What each device owes, and the levels -/

/-- Step `t` of a device is copy `t / 4` of direction `t % 2`, half `t / 2 % 2`: the copy it starts -/
def copyDue (c : Dev nD) (d j : Fin 2) (q : ℕ) : CellTallies nD τ sig ℕ := tallyAt (rvC (nx d c) d j q) (q / 2) N
/-- and the credit it signals before. -/
def credDue (c : Dev nD) (d j : Fin 2) (q : ℕ) : CellTallies nD τ sig ℕ :=
  if 1 ≤ q ∧ q ≤ 28 then tallyAt (cell (pv d c) (.cr d)) (2 * (q - 1) + j.val) 1 else 0

def stepDue (c : Dev nD) (t : ℕ) : CellTallies nD τ sig ℕ :=
  copyDue c (par t) (par (t / 2)) (t / 4) + credDue c (par t) (par (t / 2)) (t / 4)

/-- What is still owed from step `t` on. -/
def owe (c : Dev nD) (t : ℕ) : CellTallies nD τ sig ℕ := ∑ s ∈ Finset.Ico t 120, stepDue c s

def owe₀ (c : Dev nD) : CellTallies nD τ sig ℕ :=
  (owe c 0 + tallyAt (cell (nx 0 c) .bar) 0 1) + tallyAt (cell (pv 0 c) .bar) 0 1

theorem Ico_first {a b : ℕ} (h : a < b) : Finset.Ico a b = insert a (Finset.Ico (a + 1) b) := by
  ext x; simp only [Finset.mem_Ico, Finset.mem_insert]; omega
theorem Ico_last {a b : ℕ} (h : a ≤ b) : Finset.Ico a (b + 1) = insert b (Finset.Ico a b) := by
  ext x; simp only [Finset.mem_Ico, Finset.mem_insert]; omega
theorem Ico_notMem (a b : ℕ) : a ∉ Finset.Ico (a + 1) b := fun h => by have := (Finset.mem_Ico.mp h).1; omega
theorem Ico_notMem' (a b : ℕ) : b ∉ Finset.Ico a b := fun h => by have := (Finset.mem_Ico.mp h).2; omega

/-- The number of a step. -/
abbrev at_ (d j : Fin 2) (q : ℕ) : ℕ := 4 * q + 2 * j.val + d.val

theorem owe_step (c : Dev nD) (d j : Fin 2) (q : ℕ) (h : q < 30) :
    owe c (at_ d j q) = (owe c (at_ d j q + 1) + copyDue c d j q) + credDue c d j q := by
  have hj := j.isLt; have hd := d.isLt
  have e1 : par (at_ d j q) = d := Fin.ext (by show (4 * q + 2 * j.val + d.val) % 2 = d.val; omega)
  have e2 : par (at_ d j q / 2) = j := Fin.ext (by show (4 * q + 2 * j.val + d.val) / 2 % 2 = j.val; omega)
  have e3 : at_ d j q / 4 = q := by show (4 * q + 2 * j.val + d.val) / 4 = q; omega
  unfold owe
  rw [Ico_first (show at_ d j q < 120 by show 4 * q + 2 * j.val + d.val < 120; omega), Finset.sum_insert (Ico_notMem _ _)]
  rw [show stepDue c (at_ d j q) = copyDue c d j q + credDue c d j q by unfold stepDue; rw [e1, e2, e3]]
  rw [add_comm, ← add_assoc]

theorem owe_end (c : Dev nD) : owe c 120 = 0 := by unfold owe; rw [Finset.Ico_self]; rfl

/-- A device's cells carry the indices below 60. -/
def L (g : GSem nD τ sig) : Finset ℕ := if g.1.2 = .tc then Finset.range 60 else ∅

def lvOf (i : ℕ) : CK → ℕ
  | .bar => 1
  | .cr d => 4 * (i / 2 + 1) + 2 * (i % 2) + d.val + 2
  | .sd _ _ _ => 0
  | .rv d j p => 4 * (2 * i + p.val) + 2 * j.val + d.val + 2

def lv (g : GSem nD τ sig) (i : ℕ) : ℕ := (kindOf g).elim 0 (lvOf i)

theorem L_of_ne (g : GSem nD τ sig) (h : g.1.2 ≠ .tc) : L g = ∅ := if_neg h
theorem L_tc (c : Dev nD) (sm : SemLoc sig) : L ((c : Thread nD τ), sm) = Finset.range 60 := if_pos rfl
theorem lv_cell (c : Dev nD) (k : CK) (i : ℕ) : lv (cell c k) i = lvOf i k := by unfold lv; rw [kindOf_cell]; rfl

/-- Everything owed is at level `n` or above. -/
def Above (n : ℕ) (O : CellTallies nD τ sig ℕ) : Prop := ∀ g i, 0 < O g i → i ∈ L g ∧ n ≤ lv g i

theorem Above.zero (n : ℕ) : Above n 0 := fun g i h => absurd h (Nat.lt_irrefl 0)
theorem Above.mono {n n' : ℕ} {O : CellTallies nD τ sig ℕ} (h : Above n O) (hn : n' ≤ n) : Above n' O :=
  fun g i hp => ⟨(h g i hp).1, le_trans hn (h g i hp).2⟩
theorem Above.add {n : ℕ} {O O' : CellTallies nD τ sig ℕ} (h : Above n O) (h' : Above n O') : Above n (O + O') := fun g i hp => by
  rw [Pi.add_apply, Finsupp.add_apply] at hp
  rcases Nat.eq_zero_or_pos (O g i) with h0 | h0
  · exact h' g i (by omega)
  · exact h g i h0
theorem Above.tally {n : ℕ} (c : Dev nD) (k : CK) (i a : ℕ) (hi : i < 60) (hl : n ≤ lvOf i k) : Above n (tallyAt (cell c k) i a) :=
  fun g u hp => by
    rw [tallyAt_apply] at hp
    by_cases h : g = cell c k ∧ u = i
    · obtain ⟨rfl, rfl⟩ := h
      exact ⟨by rw [L_tc]; exact Finset.mem_range.mpr hi, by rw [lv_cell]; exact hl⟩
    · rw [if_neg h] at hp; exact absurd hp (Nat.lt_irrefl 0)
theorem Above.sum {n : ℕ} {α : Type} (s : Finset α) (O : α → CellTallies nD τ sig ℕ) (h : ∀ a ∈ s, Above n (O a)) :
    Above n (∑ a ∈ s, O a) := Finset.sum_induction O (Above n) (fun _ _ => Above.add) (Above.zero n) h

theorem above_copy (c : Dev nD) (d j : Fin 2) (q : ℕ) (h : q < 30) : Above (at_ d j q + 2) (copyDue c d j q) := by
  refine Above.tally _ _ _ _ (by omega) ?_
  show 4 * q + 2 * j.val + d.val + 2 ≤ 4 * (2 * (q / 2) + (par q).val) + 2 * j.val + d.val + 2
  rw [par_val]
theorem above_cred (c : Dev nD) (d j : Fin 2) (q : ℕ) (h : q < 30) : Above (at_ d j q + 2) (credDue c d j q) := by
  have hj := j.isLt
  unfold credDue; split
  · refine Above.tally _ _ _ _ (by omega) ?_
    show 4 * q + 2 * j.val + d.val + 2 ≤ 4 * ((2 * (q - 1) + j.val) / 2 + 1) + 2 * ((2 * (q - 1) + j.val) % 2) + d.val + 2
    omega
  · exact Above.zero _

theorem above_owe (c : Dev nD) (t : ℕ) : Above (t + 2) (owe c t) := by
  refine Above.sum _ _ fun s hs => ?_
  have hs' := Finset.mem_Ico.mp hs
  have e : s = at_ (par s) (par (s / 2)) (s / 4) := by show s = 4 * (s / 4) + 2 * (s / 2 % 2) + s % 2; omega
  have hq : s / 4 < 30 := by omega
  exact ((above_copy c (par s) (par (s / 2)) (s / 4) hq).add (above_cred c _ _ _ hq)).mono (by omega)

/-- The levels, as every device knows them. -/
@[irreducible] def Levs : sProp 𝕄 := levAts L lv

theorem Levs_eq : (Levs (F := F)) = levAts L lv := by unfold Levs; rfl

instance Levs_persistent : BI.Persistent (Levs (F := F)) := by rw [Levs_eq]; infer_instance

/-- A wait below everything owed. -/
theorem mayWait (c : Dev nD) (k : CK) (i n : ℕ) (O : CellTallies nD τ sig ℕ) (hi : i < 60) (hl : lvOf i k < n) (hO : Above n O) :
    (Levs (F := F)) ⊢ MayWait (c : Thread nD τ) (csem k) i O := by
  rw [Levs_eq]
  exact Pipeline.mayWait_of_levAts (by rw [L_tc]; exact Finset.mem_range.mpr hi)
    (fun g u hp => ⟨(hO g u hp).1, lt_of_lt_of_le (by rw [show lv ((c : Thread nD τ), csem k) i = lvOf i k from lv_cell c k i]; exact hl) (hO g u hp).2⟩)

end Cert.KernelIdeal.Run

end
-- ==== Proof.KernelIdealRun.Pieces.lean ====
/-
The rules the steps of a lane run by, one for each piece of the program, over the slots and rows a device owns.
-/
module

public import proofs.«01_k».proof.Proof.KernelIdealRun.Sched
public import Idealize.ShloMosaic.Lib.Tactic
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- Device `c` runs `k` to `Q`. -/
abbrev Run (c : Dev nD) (k : P F) (Q : PUnit.{1} → sProp 𝕄) : sProp 𝕄 :=
  wp frame (wpE (defs₀ (F := F)) 𝒱₀ (c : Thread nD τ) none) Set.univ k Q

/-! ## Collections -/

theorem sep_take {I : Type} [DecidableEq I] {s : Finset I} {i : I} (h : i ∈ s) (Φ : I → sProp 𝕄) :
    bigSep s Φ ⊢ iprop(Φ i ∗ bigSep (s.erase i) Φ) := Entails.of_eq (bigSep_erase h)

theorem sep_one {I : Type} [DecidableEq I] {s : Finset I} {i : I} (h : i ∈ s) (Φ : I → sProp 𝕄) :
    bigSep s Φ ⊢ Φ i := (sep_take h Φ).trans (by iintro ⟨H, -⟩; iexact H)

theorem ico_first {a b : ℕ} (h : a < b) (Φ : ℕ → sProp 𝕄) :
    bigSep (Finset.Ico a b) Φ = iprop(Φ a ∗ bigSep (Finset.Ico (a + 1) b) Φ) := by
  rw [Ico_first h]; exact bigSep_insert (Ico_notMem a b)

theorem ico_last {a b : ℕ} (h : a ≤ b) (Φ : ℕ → sProp 𝕄) :
    bigSep (Finset.Ico a (b + 1)) Φ = iprop(Φ b ∗ bigSep (Finset.Ico a b) Φ) := by
  rw [Ico_last h]; exact bigSep_insert (Ico_notMem' a b)

theorem range_last (n : ℕ) (Φ : ℕ → sProp 𝕄) :
    bigSep (Finset.range (n + 1)) Φ = iprop(Φ n ∗ bigSep (Finset.range n) Φ) := by
  rw [Finset.range_add_one]; exact bigSep_insert Finset.notMem_range_self

theorem sep_union {I : Type} [DecidableEq I] {s t : Finset I} (h : t ⊆ s) (Φ : I → sProp 𝕄) :
    bigSep s Φ = iprop(bigSep t Φ ∗ bigSep (s \ t) Φ) := bigSep_sdiff_split h

/-! ## Loads and stores -/

theorem ofSlot_toSlot (v : FVec F S64x1024 .f32) : ofSlot (toSlot v) = v := shapeCast_shapeCast _ _ _
theorem ofRows_eq (v : FVec F S64x1024 .f32) : ofRows v = v := shapeCast_self _ _

theorem read_slot (mm : Memref sig .tc .vmem S2x2x64x1024 .f32) (j p : Fin 2) (f : mm.view.ty.Contents (Elt F)) :
    (slotV mm j p).view.read (Elt F) f = ofSlot ((mm.access (slotR j p)).read (Elt F) f) := rfl

theorem set_slot (mm : Memref sig .tc .vmem S2x2x64x1024 .f32) (j p : Fin 2) :
    (mm.access (slotR j p)).set = (slotV mm j p).view.set := (View.set_reshape _ _).symm

section Rules

variable (c : Dev nD)

/-- What is loaded from an owned slot is what it holds. -/
theorem rule_ldSlot {Q : PUnit.{1} → sProp 𝕄} (mm : Memref sig .tc .vmem S2x2x64x1024 .f32) (j p : Fin 2) (v : FVec F S64x1024 .f32)
    (k : Vec F S1x1x64x1024 .f32 → P F) :
    (owns (c : Thread nD τ) (slotV mm j p) fullShare v : sProp 𝕄)
      ⊢ iprop((∀ X : Vec F S1x1x64x1024 .f32, (⌜ofSlot X = v⌝ ∗ owns (c : Thread nD τ) (slotV mm j p) fullShare v) -∗ Run c (k X) Q)
        -∗ Run c (ldSlot mm j p k) Q) := by
  unfold owns ldSlot
  iintro ⟨%f, %hf, H⟩ Hk
  iapply (wp_load_rect 𝒱₀ (c : Thread nD τ) none Set.univ (m := mm) (r := slotR j p) (set_slot mm j p).subset) $$ H
  iintro H
  iapply Hk
  isplitr; · ipureintro; exact (read_slot mm j p f).symm.trans hf
  iexists f
  isplitr; · ipureintro; exact hf
  iexact H

/-- A slot stored to holds what was stored. -/
theorem rule_stSlot {Q : PUnit.{1} → sProp 𝕄} (mm : Memref sig .tc .vmem S2x2x64x1024 .f32) (j p : Fin 2) (v w : FVec F S64x1024 .f32) (k : P F) :
    (owns (c : Thread nD τ) (slotV mm j p) fullShare w : sProp 𝕄)
      ⊢ iprop((owns (c : Thread nD τ) (slotV mm j p) fullShare v -∗ Run c k Q)
        -∗ Run c (stSlot mm j p (toSlot v) k) Q) := by
  unfold owns stSlot
  iintro ⟨%f, %hf, H⟩ Hk
  iapply (wp_store 𝒱₀ (c : Thread nD τ) none Set.univ (m := mm) (r := slotR j p) (w := toSlot v) (Mk := Finset.univ)
    (f := f) (S := (slotV mm j p).view.set) (set_slot mm j p).subset) $$ H
  iintro H
  iapply Hk
  iexists ((mm.access (slotR j p)).write (Elt F) f (toSlot v) Finset.univ)
  isplitr
  · ipureintro
    rw [read_slot, View.read_write_univ, ofSlot_toSlot]
  iexact H

/-- The device's own block, whole. -/
def xPts (X : (cc0_stg0_0 : Ref sig .tc).ty.Contents (Elt F)) : sProp 𝕄 := ((c : Thread nD τ).loc cc0_stg0_0) ↦{fullShare} X

theorem rule_ldX {Q : PUnit.{1} → sProp 𝕄} (X : (cc0_stg0_0 : Ref sig .tc).ty.Contents (Elt F)) (d j : Fin 2) (q : ℕ) (k : Vec F S64x1024 .f32 → P F) :
    (xPts c X : sProp 𝕄)
      ⊢ iprop((xPts c X -∗ Run c (k (xM.view.readAt (Elt F) (rowN (ch c d q) d j).toLoadRect X)) Q)
        -∗ Run c (ldRows xM c (ca d q) d j k) Q) := by
  have h : ∀ (r : Rect S4096x1024) (hr : r = rowN (ch c d q) d j) (hl : xM.view.LoadsAt r.toLoadRect)
      (k : (r.shape.Idx → Elt F .f32) → P F) (k' : ((rowN (ch c d q) d j).shape.Idx → Elt F .f32) → P F) (hk : HEq k k'),
      (xPts c X : sProp 𝕄)
        ⊢ iprop((xPts c X -∗ Run c (k' (xM.view.readAt (Elt F) (rowN (ch c d q) d j).toLoadRect X)) Q)
          -∗ Run c (.op (.load xM r.toLoadRect hl) k) Q) := by
    intro r hr hl k k' hk
    subst hr
    cases eq_of_heq hk
    exact wp_load 𝒱₀ (c : Thread nD τ) none Set.univ (m := xM) (Finset.subset_univ _)
  exact h _ (rowsR_eq c d j q) _ k k HEq.rfl

/-- A load from owned rows of the result, its value not used. -/
theorem rule_ldRow {Q : PUnit.{1} → sProp 𝕄} (d j : Fin 2) (q : ℕ) (v : FVec F S64x1024 .f32) (k : P F) :
    (rowIs c (ch c d q) d j v : sProp 𝕄)
      ⊢ iprop((rowIs c (ch c d q) d j v -∗ Run c k Q) -∗ Run c (ldRows oM c (ca d q) d j fun _ => k) Q) := by
  unfold rowIs owns ldRows
  rw [← rowsV_eq]
  iintro ⟨%f, %hf, H⟩ Hk
  iapply (wp_load_rect 𝒱₀ (c : Thread nD τ) none Set.univ (m := oM) (r := rowsR c (ca d q) d j) Finset.Subset.rfl) $$ H
  iintro H
  iapply Hk
  iexists f
  isplitr; · ipureintro; exact hf
  iexact H

theorem rule_stRow {Q : PUnit.{1} → sProp 𝕄} (d j : Fin 2) (q : ℕ) (v w : FVec F S64x1024 .f32) (k : P F) :
    (rowIs c (ch c d q) d j w : sProp 𝕄)
      ⊢ iprop((rowIs c (ch c d q) d j v -∗ Run c k Q) -∗ Run c (stRows oM c (ca d q) d j v k) Q) := by
  unfold rowIs owns stRows
  rw [← rowsV_eq]
  iintro ⟨%f, %hf, H⟩ Hk
  iapply (wp_store 𝒱₀ (c : Thread nD τ) none Set.univ (m := oM) (r := rowsR c (ca d q) d j) (w := v) (Mk := Finset.univ)
    (f := f) (S := (rowsV c (ca d q) d j).view.set) Finset.Subset.rfl) $$ H
  iintro H
  iapply Hk
  iexists ((rowsV c (ca d q) d j).view.write (Elt F) f v Finset.univ)
  isplitr
  · ipureintro
    exact View.read_write_univ (v := (rowsV c (ca d q) d j).view) f v
  iexact H

end Rules

/-! ## What every device knows -/

variable (m : (ℓ : Loc nD τ sig) → Buf (Elt F) ℓ) (ρ : Dev nD → PrngReg)
variable (K : Dev nD × CK → ℕ) (ιs : SKey → ℕ)

/-- The invariants of the cells and of the landing slots, and the levels. -/
def Recs : sProp 𝕄 :=
  iprop((bigSep Finset.univ fun x : Dev nD × CK => iprop(cellInv ER (Rd m ρ) (K x) (cell x.1 x.2) ∗ reached ER (cell x.1 x.2) 0))
    ∗ (bigSep Finset.univ fun x : SKey => slotInv ES (ιs x) x (rbS (F := F) x)) ∗ Levs (F := F))

instance Recs_persistent : BI.Persistent (Recs m ρ K ιs) := by unfold Recs; infer_instance

theorem inv_at (c : Dev nD) (k : CK) : Recs m ρ K ιs ⊢ cellInv ER (Rd m ρ) (K (c, k)) (cell c k) := by
  unfold Recs
  iintro ⟨H, -, -⟩
  ihave H := (sep_one (Finset.mem_univ (c, k)) _) $$ H
  icases H with ⟨H, -⟩; iexact H
theorem reached_at (c : Dev nD) (k : CK) : Recs m ρ K ιs ⊢ reached ER (cell c k) 0 := by
  unfold Recs
  iintro ⟨H, -, -⟩
  ihave H := (sep_one (Finset.mem_univ (c, k)) _) $$ H
  icases H with ⟨-, H⟩; iexact H
theorem slotInv_at (x : SKey) : Recs m ρ K ιs ⊢ slotInv ES (ιs x) x (rbS (F := F) x) := by
  unfold Recs
  iintro ⟨-, H, -⟩
  iapply (sep_one (Finset.mem_univ x) _) $$ H
theorem lev_at : Recs m ρ K ιs ⊢ Levs (F := F) := by unfold Recs; iintro ⟨-, -, H⟩; iexact H

theorem mayWait_at (c : Dev nD) (k : CK) (i n : ℕ) (O : CellTallies nD τ sig ℕ) (hi : i < 60) (hl : lvOf i k < n) (hO : Above n O) :
    Recs m ρ K ιs ⊢ MayWait (c : Thread nD τ) (csem k) i O := by
  exact (lev_at m ρ K ιs).trans (mayWait (F := F) c k i n O hi hl hO)

/-- What a device owes, its waits so far left out. -/
def ow (c : Dev nD) (O : CellTallies nD τ sig ℕ) : sProp 𝕄 := iprop(∃ W, owes (c : Thread nD τ) O W)

section Rules

variable (c : Dev nD)

/-! ## Waits -/

/-- The wait for the whole of a round. -/
theorem rule_wait {Q : PUnit.{1} → sProp 𝕄} (k : CK) (r i n : ℕ) {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (csem k) a G)
    (ha : (Rd (F := F) m ρ).expect (cell c k) r = a) {O : CellTallies nD τ sig ℕ} (hi : i < 60) (hl : lvOf i k < n) (hO : Above n O)
    (kk : PUnit → P F) :
    iprop(Recs m ρ K ιs ∗ cred (tallyAt (cell c k) i a) ∗ ow c O ∗ atPos ER (cell c k) r ∅ 0)
      ⊢ iprop(((ow c O ∗ atPos ER (cell c k) (r + 1) ∅ 0 ∗ reached ER (cell c k) (r + 1)
            ∗ bigSep ((Rd (F := F) m ρ).duties (cell c k) r) (fun u => (Rd (F := F) m ρ).payload (cell c k) r u)) -∗ Run c (kk ⟨⟩) Q)
          -∗ Run c (.op w kk) Q) := by
  unfold ow
  iintro ⟨#HR, Hc, ⟨%W, HO⟩, Hat⟩ Hk
  iapply (Rounds.wp_wait_rest_token 𝒱₀ ER (Rd m ρ) (c : Thread nD τ) none (κ := K (c, k)) hw (Set.mem_univ _) i
    (O := O) (W := W) (R := r) (m := 0) (T := ∅) (by rw [Nat.zero_add]; exact ha.symm)) $$ [Hc HO Hat]
  · isplitr; · iapply (inv_at m ρ K ιs c k); iexact HR
    isplitl [Hc]; · iexact Hc
    isplitl [HO]; · iexact HO
    isplitr; · iapply (mayWait_at m ρ K ιs c k i n O hi hl hO); iexact HR
    iexact Hat
  iintro ⟨HO, Hat, Hr, Hp⟩
  iapply Hk
  isplitl [HO]; · iexists _; iexact HO
  isplitl [Hat]; · iexact Hat
  isplitl [Hr]; · iexact Hr
  rw [Finset.sdiff_empty]; iexact Hp

/-- Copy `q` has landed. -/
theorem rule_wait_rv {Q : PUnit.{1} → sProp 𝕄} (d j : Fin 2) (q n : ℕ) {w : TpuEff nD τ sig (Elt F) Λ₀ .tc PUnit}
    (hw : ∀ G : PUnit → sProp 𝕄, wpE (defs₀ (F := F)) 𝒱₀ (c : Thread nD τ) none Set.univ w G
      = waitSpec (c : Thread nD τ) Set.univ (.dma (rs d j (par q))) N G)
    {O : CellTallies nD τ sig ℕ} (hq : q < 30) (hn : at_ d j q + 2 < n) (hO : Above n O) (kk : PUnit → P F) :
    iprop(Recs m ρ K ιs ∗ cred (tallyAt (rvC c d j q) (q / 2) N) ∗ ow c O ∗ atPos ER (rvC c d j q) (q / 2) ∅ 0)
      ⊢ iprop(((ow c O ∗ atPos ER (rvC c d j q) (q / 2 + 1) ∅ 0 ∗ reached ER (rvC c d j q) (q / 2 + 1) ∗ rvPay m ρ c d j q) -∗ Run c (kk ⟨⟩) Q)
          -∗ Run c (.op w kk) Q) := by
  have h := rule_wait (Q := Q) m ρ K ιs c (.rv d j (par q)) (q / 2) (q / 2) n hw (expect_rv m ρ c d j (par q) (q / 2) (by omega)) (O := O)
    (by omega) (by show 4 * (2 * (q / 2) + (par q).val) + 2 * j.val + d.val + 2 < n; rw [par_val]; exact hn) hO kk
  rw [duties_rv m ρ c d j (par q) (q / 2) (by omega), bigSep_singleton, payload_rv] at h
  exact h

/-- Copy `q` has left. -/
theorem rule_wait_sd {Q : PUnit.{1} → sProp 𝕄} (d j : Fin 2) (q n : ℕ) {w : TpuEff nD τ sig (Elt F) Λ₀ .tc PUnit}
    (hw : ∀ G : PUnit → sProp 𝕄, wpE (defs₀ (F := F)) 𝒱₀ (c : Thread nD τ) none Set.univ w G
      = waitSpec (c : Thread nD τ) Set.univ (.dma (ss d j (par q))) N G)
    {O : CellTallies nD τ sig ℕ} (hq : q < 30) (hn : 0 < n) (hO : Above n O) (kk : PUnit → P F) :
    iprop(Recs m ρ K ιs ∗ cred (tallyAt (sdC c d j q) (q / 2) N) ∗ ow c O ∗ atPos ER (sdC c d j q) (q / 2) ∅ 0)
      ⊢ iprop(((ow c O ∗ atPos ER (sdC c d j q) (q / 2 + 1) ∅ 0 ∗ reached ER (sdC c d j q) (q / 2 + 1) ∗ sdPay m ρ c d j q) -∗ Run c (kk ⟨⟩) Q)
          -∗ Run c (.op w kk) Q) := by
  have h := rule_wait (Q := Q) m ρ K ιs c (.sd d j (par q)) (q / 2) (q / 2) n hw (expect_sd m ρ c d j (par q) (q / 2) (by omega)) (O := O)
    (by omega) hn hO kk
  rw [duties_sd m ρ c d j (par q) (q / 2) (by omega), bigSep_singleton, payload_sd] at h
  exact h

/-! ## The credits -/

/-- Device `c`'s credit state in direction `d`, `i` signals made and `m` units taken: its own cell's position with what
    the taken units said, the units to come, the tokens of the signals to make, and what the made ones said. -/
def Crs (c : Dev nD) (d : Fin 2) (i m : ℕ) : sProp 𝕄 :=
  iprop((∃ T : Finset ℕ, ⌜T ⊆ Finset.range 56 ∧ m ≤ T.card⌝ ∗ atPos ER (cell c (.cr d)) 0 T m
      ∗ bigSep T (fun u => bigSep (Finset.range (u + 1)) (fact (F := F) d (nx d c))))
    ∗ bigSep (Finset.Ico m 56) (fun u => cred (tallyAt (cell c (.cr d)) u 1))
    ∗ bigSep (Finset.Ico i 56) (fun u => dutyTok ER (cell (pv d c) (.cr d)) 0 u)
    ∗ bigSep (Finset.range i) (fact (F := F) d c))

/-- A signal: it says what every earlier one said, and one fact more. -/
theorem rule_signal_cr {Q : PUnit.{1} → sProp 𝕄} (d : Fin 2) (i u : ℕ) (hi : i < 56) {O₀ : CellTallies nD τ sig ℕ}
    (O : CellTallies nD τ sig ℕ) (hO : O₀ = O + tallyAt (cell (pv d c) (.cr d)) i 1) (k : P F) :
    iprop(Recs m ρ K ιs ∗ Crs c d i u ∗ ow c O₀ ∗ fact (F := F) d c i)
      ⊢ iprop(((Crs c d (i + 1) u ∗ ow c O) -∗ Run c k Q) -∗ Run c (signalTo (frD d c) (crS d) k) Q) := by
  unfold ow Crs signalTo
  rw [ico_first hi, frD_eq]
  iintro ⟨#HR, ⟨HT, Hcs, ⟨Htok, Htoks⟩, #Hfs⟩, ⟨%W, HO⟩, #Hf⟩ Hk
  ihave #Hfs' : bigSep (Finset.range (i + 1)) (fact (F := F) d c) $$ []
  · rw [range_last]
    isplitr; · iexact Hf
    iexact Hfs
  iapply (Rounds.wp_signal 𝒱₀ ER (Rd m ρ) (c : Thread nD τ) none (dst := (pv d c : Thread nD τ)) (κ := K (pv d c, .cr d)) (sem := crS d)
    (d := i) (r := 0) (k' := 1) (by rw [show ((pv d c : Thread nD τ), SemLoc.reg (crS d)) = cell (pv d c) (.cr d) from rfl, duties_cr]; exact Finset.mem_range.mpr hi)
    (amount_cell m ρ (pv d c) (.cr d) 0 i) i O hO (W := W)) $$ [HO Htok]
  · isplitr; · iapply (inv_at m ρ K ιs (pv d c) (.cr d)); iexact HR
    isplitl [HO]; · iexact HO
    isplitl [Htok]; · iexact Htok
    isplitr
    · rw [show (Rd (F := F) m ρ).payload ((pv d c : Thread nD τ), SemLoc.reg (crS d)) 0 i = bigSep (Finset.range (i + 1)) (fact (F := F) d (nx d (pv d c)))
        from payload_cell m ρ (pv d c) (.cr d) 0 i, nx_pv]
      iexact Hfs'
    iapply (reached_at m ρ K ιs (pv d c) (.cr d)); iexact HR
  iintro HO
  iapply Hk
  isplitr [HO]
  · isplitl [HT]; · iexact HT
    isplitl [Hcs]; · iexact Hcs
    isplitl [Htoks]; · iexact Htoks
    iexact Hfs'
  iexists W; iexact HO

/-- One unit taken after `u`: some signal numbered `u` or later has been made, so fact `u` holds. -/
theorem rule_wait_cr {Q : PUnit.{1} → sProp 𝕄} (d : Fin 2) (i u n : ℕ) (hu : u < 56) {O : CellTallies nD τ sig ℕ}
    (hn : 4 * (u / 2 + 1) + 2 * (u % 2) + d.val + 2 < n) (hO : Above n O) (k : P F) :
    iprop(Recs m ρ K ιs ∗ Crs c d i u ∗ ow c O)
      ⊢ iprop(((Crs c d i (u + 1) ∗ ow c O ∗ fact (F := F) d (nx d c) u) -∗ Run c k Q) -∗ Run c (waitFor (crS d) 1 k) Q) := by
  unfold ow Crs waitFor
  rw [ico_first hu]
  iintro ⟨#HR, ⟨⟨%T, %hT, Hat, #HT⟩, ⟨Hc, Hcs⟩, Htoks, Hfs⟩, ⟨%W, HO⟩⟩ Hk
  iapply (Rounds.wp_wait 𝒱₀ ER (Rd m ρ) (c : Thread nD τ) none (κ := K (c, .cr d)) (sm := .reg (crS d)) (k' := 1)
    (wpE_semWait_eq 𝒱₀ (c : Thread nD τ) none Set.univ) (Set.mem_univ _) (cr := Finsupp.single u 1) (O := O) (W := W) {(SemLoc.reg (crS d), u)}
    (R := 0) (m := u) (T := T) (by rw [Util.total_single]) (image_single_subset _ u 1)) $$ [Hc HO Hat]
  · isplitr; · iapply (inv_at m ρ K ιs c (.cr d)); iexact HR
    isplitl [Hc]; · iexact Hc
    isplitl [HO]; · iexact HO
    isplitr; · iapply (mayWait_at m ρ K ιs c (.cr d) u n O (by omega) hn hO); iexact HR
    iexact Hat
  iintro %S ⟨%hS, HO, Hat, Hp⟩
  obtain ⟨hTS, hSd, hcard⟩ := hS
  rw [show ((c : Thread nD τ), SemLoc.reg (crS d)) = cell c (.cr d) from rfl] at hSd hcard
  rw [duties_cr] at hSd hcard
  rw [expect_cr] at hcard
  have hS' : u + 1 ≤ S.card := by
    have := Finset.card_sdiff_add_card_eq_card hSd
    rw [Finset.card_range] at this; omega
  obtain ⟨e, he, hue⟩ : ∃ e ∈ S, u ≤ e := by
    by_contra hn
    have : S ⊆ Finset.range u := fun e he => Finset.mem_range.mpr (by by_contra h; exact hn ⟨e, he, by omega⟩)
    have := Finset.card_le_card this
    rw [Finset.card_range] at this; omega
  ihave #Hp' : bigSep (S \ T) (fun v => bigSep (Finset.range (v + 1)) (fact (F := F) d (nx d c))) $$ [Hp]
  · rw [show (fun v => bigSep (Finset.range (v + 1)) (fact (F := F) d (nx d c))) = fun v => (Rd (F := F) m ρ).payload (cell c (.cr d)) 0 v
      from funext fun v => (payload_cell m ρ c (.cr d) 0 v).symm]
    iexact Hp
  ihave #HS : bigSep S (fun v => bigSep (Finset.range (v + 1)) (fact (F := F) d (nx d c))) $$ []
  · rw [sep_union hTS]
    isplitr; · iexact HT
    iexact Hp'
  iapply Hk
  isplitl [Hat Hcs Htoks Hfs]
  · isplitl [Hat]
    · iexists S
      isplitr; · ipureintro; exact ⟨hSd, hS'⟩
      isplitl [Hat]; · iexact Hat
      iexact HS
    isplitl [Hcs]; · iexact Hcs
    isplitl [Htoks]; · iexact Htoks
    iexact Hfs
  isplitl [HO]; · iexists _; iexact HO
  ihave He := (sep_one he _) $$ HS
  iapply (sep_one (Finset.mem_range.mpr (by omega : u < e + 1)) _) $$ He

end Rules

end Cert.KernelIdeal.Run

end
-- ==== Proof.KernelIdealRun.Send.lean ====
/-
The two kinds of copies a device starts, and the release of a landing slot.
-/
module

public import proofs.«01_k».proof.Proof.KernelIdealRun.Pieces

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (ιs : SKey → ℕ)

/-- What copy `q` starts from beside its source: the duties it pays and that their rounds are open. -/
def ready (c : Dev nD) (d j : Fin 2) (q : ℕ) : sProp 𝕄 :=
  iprop(dutyTok ER (rvC (nx d c) d j q) (q / 2) 0 ∗ reached ER (rvC (nx d c) d j q) (q / 2)
    ∗ dutyTok ER (sdC c d j q) (q / 2) 0 ∗ reached ER (sdC c d j q) (q / 2))

/-- A copy between two views owned whole, its payloads made from what they hold. -/
theorem rule_send {Q : PUnit.{1} → sProp 𝕄} (c : Dev nD) (d j : Fin 2) (q : ℕ) (hq : q < 30)
    (src dst : Memref sig .tc .vmem S64x1024 .f32) (hN : dst.view.dmaCredit = N) (v w : FVec F S64x1024 .f32)
    (hsd : (owns (c : Thread nD τ) src fullShare v : sProp 𝕄) ⊢ sdPay m ρ c d j q)
    (hrv : (owns (nx d c : Thread nD τ) dst fullShare v : sProp 𝕄) ⊢ rvPay m ρ (nx d c) d j q)
    (n : Dev nD) (hn : n = nx d c)
    {hsc : (dst : Memref sig (Dev.tc n : Thread nD τ).2.kind .vmem S64x1024 .f32).view.ref.isScScratch = false}
    {hsrc : src.view.WordExact} {hdst : dst.view.WordExact}
    {hsem : DmaTarget.Typed .vmem (.dma (rs d j (par q))) (.remote (Dev.tc n : Thread nD τ) dst (.dma (ss d j (par q))) hsc)}
    {O₀ : CellTallies nD τ sig ℕ} (O : CellTallies nD τ sig ℕ) (hO : O₀ = O + copyDue c d j q) (k : PUnit → P F) :
    iprop(Recs m ρ K ιs ∗ owns (c : Thread nD τ) src fullShare v ∗ owns (nx d c : Thread nD τ) dst fullShare w ∗ ready c d j q ∗ ow c O₀)
      ⊢ iprop(((cred (tallyAt (sdC c d j q) (q / 2) N) ∗ ow c O) -∗ Run c (k ⟨⟩) Q)
          -∗ Run c (.op (.enqueueDma src (.remote (Dev.tc n : Thread nD τ) dst (.dma (ss d j (par q))) hsc) (.dma (rs d j (par q))) hsrc hdst hsem) k) Q) := by
  subst hn
  unfold ow ready
  rw [show (owns (c : Thread nD τ) src fullShare v : sProp 𝕄)
    = iprop(∃ f, ⌜src.view.read (Elt F) f = v⌝ ∗ (src.view.loc (c : Thread nD τ) ↦[src.view.set]{fullShare} f)) from rfl]
  rw [show (owns (nx d c : Thread nD τ) dst fullShare w : sProp 𝕄)
    = iprop(∃ f, ⌜dst.view.read (Elt F) f = w⌝ ∗ (dst.view.loc (nx d c : Thread nD τ) ↦[dst.view.set]{fullShare} f)) from rfl]
  iintro ⟨#HR, ⟨%fs, %hfs, Hs⟩, ⟨%fd, %hfd, Hd⟩, ⟨Ht2, Hr2, Ht1, Hr1⟩, ⟨%W, HO⟩⟩ Hk
  iapply (Rounds.wp_send_pointsTo 𝒱₀ ER (Rd m ρ) (c : Thread nD τ) none (c' := (nx d c : Thread nD τ)) (src := src) (dst := dst)
    (sS := .dma (ss d j (par q))) (sem := .dma (rs d j (par q))) (hsc := hsc) (hsrc := hsrc) (hdst := hdst) (hsem := hsem) (k := k)
    (κ₁ := K (c, .sd d j (par q))) (κ₂ := K (nx d c, .rv d j (par q)))
    (r₁ := q / 2) (r₂ := q / 2) (d₁ := 0) (d₂ := 0) (fs := fs) (fd := fd)
    (by show 0 ∈ (Rd (F := F) m ρ).duties (sdC c d j q) (q / 2)
        rw [duties_sd m ρ c d j (par q) (q / 2) (by omega)]; exact Finset.mem_singleton_self _)
    (by show 0 ∈ (Rd (F := F) m ρ).duties (rvC (nx d c) d j q) (q / 2)
        rw [duties_rv m ρ (nx d c) d j (par q) (q / 2) (by omega)]; exact Finset.mem_singleton_self _)
    (q / 2) (q / 2) N hN (amount_cell m ρ c (.sd d j (par q)) (q / 2) 0) (amount_cell m ρ (nx d c) (.rv d j (par q)) (q / 2) 0)
    O hO (W := W)
    (by show _ ⊢ (Rd (F := F) m ρ).payload (sdC c d j q) (q / 2) 0
        rw [payload_sd]
        refine BIBase.Entails.trans ?_ hsd
        rw [← hfs]; exact owns_intro _ _ _ _)
    (by show _ ⊢ (Rd (F := F) m ρ).payload (rvC (nx d c) d j q) (q / 2) 0
        rw [payload_rv]
        refine BIBase.Entails.trans ?_ hrv
        have h := owns_intro (Ix := ℕ) (Name := ℕ) (U := UU) (Lvl := ℕ) (nx d c : Thread nD τ) dst fullShare
          (dst.view.write (Elt F) fd (src.view.read (Elt F) fs) Finset.univ)
        rw [View.read_write_univ, hfs] at h
        rw [hfs]; exact h)) $$ [Hs Hd HO Ht1 Hr1 Ht2 Hr2]
  · isplitr; · iapply (inv_at m ρ K ιs c (.sd d j (par q))); iexact HR
    isplitr; · iapply (inv_at m ρ K ιs (nx d c) (.rv d j (par q))); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

theorem sdPay_slot (c : Dev nD) (d j : Fin 2) (q : ℕ) (h : q ≤ 14) : sdPay m ρ c d j q = slotAny sbM c d j (par q) := if_pos h
theorem sdPay_row (c : Dev nD) (d j : Fin 2) (q : ℕ) (h : 15 ≤ q) : sdPay m ρ c d j q = rowIs c (ch c d q) d j (val m ρ d j q c) :=
  if_neg (by omega)
theorem rvPay_slot (c : Dev nD) (d j : Fin 2) (q : ℕ) (h : q ≤ 14) :
    rvPay m ρ c d j q = owns (c : Thread nD τ) (slotV (rbM d) j (par q)) fullShare (val m ρ d j q (pv d c)) := if_pos h
theorem rvPay_row (c : Dev nD) (d j : Fin 2) (q : ℕ) (h : 15 ≤ q) :
    rvPay m ρ c d j q = rowIs c (ch c d (q + 1)) d j (val m ρ d j q (pv d c)) := if_neg (by omega)

theorem ch_nx (c : Dev nD) (d : Fin 2) (q : ℕ) (h : q ≤ 31) : ch (nx d c) d (q + 1) = ch c d q := by
  rw [← ch_pv (nx d c) d q h, pv_nx]

/-- A copy of a partial sum: the landing slot is taken out of its invariant, released for this write. -/
theorem rule_sendRS {Q : PUnit.{1} → sProp 𝕄} (c : Dev nD) (d j : Fin 2) (q : ℕ) (hq : q ≤ 14)
    {O₀ : CellTallies nD τ sig ℕ} (O : CellTallies nD τ sig ℕ) (hO : O₀ = O + copyDue c d j q) (k : P F) :
    iprop(Recs m ρ K ιs ∗ owns (c : Thread nD τ) (slotV (sbM d) j (par q)) fullShare (val m ρ d j q c)
        ∗ (writeTok ES ((nx d c, d, j, par q) : SKey) (q / 2 + 1) ∗ released ES ((nx d c, d, j, par q) : SKey) (q / 2 + 1)) ∗ ready c d j q ∗ ow c O₀)
      ⊢ iprop(((cred (tallyAt (sdC c d j q) (q / 2) N) ∗ ow c O) -∗ Run c k Q) -∗ Run c (sendRS c d j (par q) k) Q) := by
  iintro ⟨#HR, Hs, ⟨Hw, Hl⟩, Hrd, HO⟩ Hk
  imod (slot_take ES (k := ((nx d c, d, j, par q) : SKey)) (S := rbS (F := F) (nx d c, d, j, par q)) (Set.mem_univ (ιs (nx d c, d, j, par q))) (q / 2 + 1)) $$ [Hw Hl] with Hd
  · isplitr; · iapply (slotInv_at m ρ K ιs (nx d c, d, j, par q)); iexact HR
    isplitl [Hl]; · iexact Hl
    iexact Hw
  ihave Hd := (Entails.of_eq (show rbS (F := F) (nx d c, d, j, par q)
    = iprop(∃ w, owns (nx d c : Thread nD τ) (slotV (rbM d) j (par q)) fullShare w) from rfl)) $$ Hd
  icases Hd with ⟨%w, Hd⟩
  unfold sendRS
  iapply (rule_send m ρ K ιs c d j q (by omega) (slotV (sbM d) j (par q)) (slotV (rbM d) j (par q)) (N_slot _ _ _) (val m ρ d j q c) w
    (by rw [sdPay_slot m ρ c d j q hq]; unfold slotAny; iintro H; iexists _; iexact H)
    (by rw [rvPay_slot m ρ _ d j q hq, pv_nx])
    (toD d c) (toD_eq d c) O hO (fun _ => k)) $$ [Hs Hd Hrd HO]
  · isplitr; · iexact HR
    isplitl [Hs]; · iexact Hs
    isplitl [Hd]; · iexact Hd
    isplitl [Hrd]; · iexact Hrd
    iexact HO
  iexact Hk

/-- A copy of finished rows, onto the same rows of the neighbour's result. -/
theorem rule_sendAG {Q : PUnit.{1} → sProp 𝕄} (c : Dev nD) (d j : Fin 2) (q : ℕ) (h15 : 15 ≤ q) (hq : q < 30)
    {O₀ : CellTallies nD τ sig ℕ} (O : CellTallies nD τ sig ℕ) (hO : O₀ = O + copyDue c d j q) (k : P F) :
    iprop(Recs m ρ K ιs ∗ rowIs c (ch c d q) d j (val m ρ d j q c) ∗ rowAny (F := F) (nx d c) (ch c d q) d j ∗ ready c d j q ∗ ow c O₀)
      ⊢ iprop(((cred (tallyAt (sdC c d j q) (q / 2) N) ∗ ow c O) -∗ Run c k Q) -∗ Run c (sendAG c (ca d q) d j (par q) k) Q) := by
  have h (r : Memref sig .tc .vmem S64x1024 .f32) (hr : r = rowM (ch c d q) d j) {hsc hsrc hdst hsem} (w : FVec F S64x1024 .f32) :
      iprop(Recs m ρ K ιs ∗ rowIs c (ch c d q) d j (val m ρ d j q c) ∗ rowIs (nx d c) (ch c d q) d j w ∗ ready c d j q ∗ ow c O₀)
      ⊢ iprop(((cred (tallyAt (sdC c d j q) (q / 2) N) ∗ ow c O) -∗ Run c k Q)
        -∗ Run c (.op (.enqueueDma r (.remote (Dev.tc (toD d c) : Thread nD τ) r (.dma (ss d j (par q))) hsc) (.dma (rs d j (par q))) hsrc hdst hsem) fun _ => k) Q) := by
    subst hr
    exact rule_send m ρ K ιs c d j q hq (rowM (ch c d q) d j) (rowM (ch c d q) d j) (N_row _ _ _) (val m ρ d j q c) w
      (by rw [sdPay_row m ρ c d j q h15]; exact Entails.refl _)
      (by rw [rvPay_row m ρ _ d j q h15, pv_nx, ch_nx c d q (by omega)]; exact Entails.refl _)
      (toD d c) (toD_eq d c) O hO (fun _ => k)
  unfold rowAny
  iintro ⟨HR, Hs, ⟨%w, Hd⟩, Hrd, HO⟩ Hk
  unfold sendAG
  iapply (h _ (rowsV_eq c d j q) w) $$ [HR Hs Hd Hrd HO]
  · isplitl [HR]; · iexact HR
    isplitl [Hs]; · iexact Hs
    isplitl [Hd]; · iexact Hd
    isplitl [Hrd]; · iexact Hrd
    iexact HO
  iexact Hk

/-! ## Releases -/

theorem slotAny_excl (b : Fin 2 → Memref sig .tc .vmem S2x2x64x1024 .f32) (c : Dev nD) (d j p : Fin 2) :
    iprop(slotAny (F := F) b c d j p ∗ slotAny b c d j p) ⊢ (False : sProp 𝕄) := by
  have hne : (slotV (b d) j p).view.set.Nonempty :=
    ⟨(slotV (b d) j p).view.emb (fun a => ⟨0, by fin_cases a <;> decide⟩), Finset.mem_map_of_mem _ (Finset.mem_univ _)⟩
  refine BIBase.Entails.trans ?_ (slot_slot_false (ℓ := (slotV (b d) j p).view.loc (c : Thread nD τ)) hne)
  unfold slotAny owns slot
  iintro ⟨⟨%v, %f, %hf, H⟩, ⟨%v', %f', %hf', H'⟩⟩
  isplitl [H]
  · iexists f; iexact H
  iexists f'; iexact H'

/-- The reader puts a landing slot back: it is free for the next write. -/
theorem release (c : Dev nD) (d j p : Fin 2) (n : ℕ) (v : FVec F S64x1024 .f32) :
    iprop(Recs m ρ K ιs ∗ readerAt ES ((c, d, j, p) : SKey) n ∗ owns (c : Thread nD τ) (slotV (rbM d) j p) fullShare v)
      ⊢ iprop(|={Set.univ}=> (readerAt ES ((c, d, j, p) : SKey) (n + 1) ∗ released ES ((c, d, j, p) : SKey) (n + 1)) : sProp 𝕄) := by
  iintro ⟨#HR, Hr, Hs⟩
  iapply (slot_release ES (k := ((c, d, j, p) : SKey)) (S := rbS (F := F) (c, d, j, p)) (Set.mem_univ (ιs (c, d, j, p))) (slotAny_excl _ _ _ _ _) n)
  isplitr; · iapply (slotInv_at m ρ K ιs (c, d, j, p)); iexact HR
  isplitl [Hr]; · iexact Hr
  iapply (show (owns (c : Thread nD τ) (slotV (rbM d) j p) fullShare v : sProp 𝕄) ⊢ rbS (F := F) (c, d, j, p) from by
    show _ ⊢ slotAny (F := F) rbM c d j p
    unfold slotAny; iintro H; iexists v; iexact H)
  iexact Hs

/-- At entry a device frees each of its landing slots for the first write. -/
theorem release_any (c : Dev nD) (d j p : Fin 2) (n : ℕ) :
    iprop(Recs m ρ K ιs ∗ readerAt ES ((c, d, j, p) : SKey) n ∗ slotAny (F := F) rbM c d j p)
      ⊢ iprop(|={Set.univ}=> (readerAt ES ((c, d, j, p) : SKey) (n + 1) ∗ released ES ((c, d, j, p) : SKey) (n + 1)) : sProp 𝕄) := by
  unfold slotAny
  iintro ⟨HR, Hr, ⟨%v, Hs⟩⟩
  iapply (release m ρ K ιs c d j p n v)
  isplitl [HR]; · iexact HR
  isplitl [Hr]; · iexact Hr
  iexact Hs

end Cert.KernelIdeal.Run

end
-- ==== Proof.KernelIdealRun.Steps.lean ====
/-
A lane's state between its steps, and the steps.
-/
module

public import proofs.«01_k».proof.Proof.KernelIdealRun.Send

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (ιs : SKey → ℕ)

section Lane

variable (c : Dev nD) (d j : Fin 2)

/-- The receive cell copy `q` is next to land on, and the credit of its wait; -/
def rc (q : ℕ) : sProp 𝕄 := atPos ER (rvC c d j q) (q / 2) ∅ 0
def crd (q : ℕ) : sProp 𝕄 := cred (tallyAt (rvC c d j q) (q / 2) N)
/-- copy `q` in flight; -/
def sc (q : ℕ) : sProp 𝕄 := atPos ER (sdC c d j q) (q / 2) ∅ 0
def fl (q : ℕ) : sProp 𝕄 := iprop(cred (tallyAt (sdC c d j q) (q / 2) N) ∗ sc (F := F) c d j q)
/-- what copy `q` is started with: its duties, and the write of its landing slot or the rows it lands in; -/
def tk (q : ℕ) : sProp 𝕄 :=
  iprop(dutyTok ER (rvC (nx d c) d j q) (q / 2) 0 ∗ dutyTok ER (sdC c d j q) (q / 2) 0
    ∗ (if q ≤ 14 then writeTok ES ((nx d c, d, j, par q) : SKey) (q / 2 + 1) else rowAny (F := F) (nx d c) (ch c d q) d j))
/-- the reader of the slot copy `q` lands in. -/
def rd (q : ℕ) : sProp 𝕄 := readerAt ES ((c, d, j, par q) : SKey) (q / 2 + 1)

theorem div_add_two (q : ℕ) : (q + 2) / 2 = q / 2 + 1 := by omega

theorem rc_next (q : ℕ) : (atPos ER (rvC c d j q) (q / 2 + 1) ∅ 0 : sProp 𝕄) = rc c d j (q + 2) := by
  unfold rc rvC; rw [par_add_two, div_add_two]
theorem sc_next (q : ℕ) : (atPos ER (sdC c d j q) (q / 2 + 1) ∅ 0 : sProp 𝕄) = sc c d j (q + 2) := by
  unfold sc sdC; rw [par_add_two, div_add_two]
theorem rd_next (q : ℕ) : (readerAt ES ((c, d, j, par q) : SKey) (q / 2 + 1 + 1) : sProp 𝕄) = rd c d j (q + 2) := by
  unfold rd; rw [par_add_two, div_add_two]

/-- What the credit about copy `n` says. -/
theorem fact_eq (n : ℕ) : fact (F := F) d c (2 * n + j.val) = iprop(reached ER (rvC c d j n) (n / 2 + 1)
    ∗ (if n < 15 then released ES ((c, d, j, par n) : SKey) (n / 2 + 2) else iprop(emp))) := by
  have hj := j.isLt
  have e1 : par (2 * n + j.val) = j := Fin.ext (by show (2 * n + j.val) % 2 = j.val; omega)
  have e2 : (2 * n + j.val) / 2 = n := by omega
  have e3 : (2 * n + j.val) / 4 = n / 2 := by omega
  have e4 : (2 * n + j.val < 30) = (n < 15) := propext ⟨fun h => by omega, fun h => by omega⟩
  unfold fact; rw [e1, e2, e3]; simp only [e4]

/-- A lane's copies to come, copy `q` next to land: between two steps, -/
def core (q : ℕ) : sProp 𝕄 :=
  iprop(bigSep (Finset.Ico q 30) (crd (F := F) c d j) ∗ rc (F := F) c d j q ∗ rc (F := F) c d j (q + 1)
    ∗ bigSep (Finset.Ico (q + 1) 30) (tk (F := F) c d j))
/-- and within one, copy `q` landed and the next not yet started. -/
def mid (q : ℕ) : sProp 𝕄 :=
  iprop(bigSep (Finset.Ico (q + 1) 30) (crd (F := F) c d j) ∗ rc (F := F) c d j (q + 1) ∗ rc (F := F) c d j (q + 2)
    ∗ bigSep (Finset.Ico (q + 1) 30) (tk (F := F) c d j))

theorem mid_core (q : ℕ) (h : q + 1 < 30) : mid (F := F) c d j q ⊢ iprop(tk c d j (q + 1) ∗ core c d j (q + 1)) := by
  unfold mid core
  rw [ico_first h (tk (F := F) c d j)]
  iintro ⟨Hc, H1, H2, Ht, Hts⟩
  isplitl [Ht]; · iexact Ht
  isplitl [Hc]; · iexact Hc
  isplitl [H1]; · iexact H1
  isplitl [H2]; · iexact H2
  iexact Hts

/-- Copy `q` lands. -/
theorem core_recv {Q : PUnit.{1} → sProp 𝕄} (q n : ℕ) {w : TpuEff nD τ sig (Elt F) Λ₀ .tc PUnit}
    (hw : ∀ G : PUnit → sProp 𝕄, wpE (defs₀ (F := F)) 𝒱₀ (c : Thread nD τ) none Set.univ w G
      = waitSpec (c : Thread nD τ) Set.univ (.dma (rs d j (par q))) N G)
    {O : CellTallies nD τ sig ℕ} (hq : q < 30) (hn : at_ d j q + 2 < n) (hO : Above n O) (kk : PUnit → P F) :
    iprop(Recs m ρ K ιs ∗ core c d j q ∗ ow c O)
      ⊢ iprop(((mid c d j q ∗ ow c O ∗ reached ER (rvC c d j q) (q / 2 + 1) ∗ rvPay m ρ c d j q) -∗ Run c (kk ⟨⟩) Q)
          -∗ Run c (.op w kk) Q) := by
  unfold core
  rw [ico_first hq (crd (F := F) c d j)]
  unfold crd
  rw [show rc (F := F) c d j q = atPos ER (rvC c d j q) (q / 2) ∅ 0 from rfl]
  iintro ⟨#HR, ⟨⟨Hc, Hcs⟩, H1, H2, Ht⟩, HO⟩ Hk
  iapply (rule_wait_rv m ρ K ιs c d j q n hw hq hn hO kk) $$ [Hc H1 HO]
  · isplitr; · iexact HR
    isplitl [Hc]; · iexact Hc
    isplitl [HO]; · iexact HO
    iexact H1
  rw [rc_next]
  iintro ⟨HO, H1, Hr, Hp⟩
  iapply Hk
  isplitr [HO Hr Hp]
  · unfold mid crd
    isplitl [Hcs]; · iexact Hcs
    isplitl [H2]; · iexact H2
    isplitl [H1]; · iexact H1
    iexact Ht
  isplitl [HO]; · iexact HO
  isplitl [Hr]; · iexact Hr
  iexact Hp

/-- Copy `q` has left. -/
theorem fl_wait {Q : PUnit.{1} → sProp 𝕄} (q n : ℕ) {w : TpuEff nD τ sig (Elt F) Λ₀ .tc PUnit}
    (hw : ∀ G : PUnit → sProp 𝕄, wpE (defs₀ (F := F)) 𝒱₀ (c : Thread nD τ) none Set.univ w G
      = waitSpec (c : Thread nD τ) Set.univ (.dma (ss d j (par q))) N G)
    {O : CellTallies nD τ sig ℕ} (hq : q < 30) (hn : 0 < n) (hO : Above n O) (kk : PUnit → P F) :
    iprop(Recs m ρ K ιs ∗ fl c d j q ∗ ow c O)
      ⊢ iprop(((ow c O ∗ sc c d j (q + 2) ∗ reached ER (sdC c d j (q + 2)) ((q + 2) / 2) ∗ sdPay m ρ c d j q) -∗ Run c (kk ⟨⟩) Q)
          -∗ Run c (.op w kk) Q) := by
  unfold fl
  rw [← sc_next, show (reached ER (sdC c d j (q + 2)) ((q + 2) / 2) : sProp 𝕄) = reached ER (sdC c d j q) (q / 2 + 1) from by
    unfold sdC; rw [par_add_two, div_add_two]]
  rw [show sc (F := F) c d j q = atPos ER (sdC c d j q) (q / 2) ∅ 0 from rfl]
  iintro ⟨HR, ⟨Hc, H1⟩, HO⟩
  iapply (rule_wait_sd m ρ K ιs c d j q n hw hq hn hO kk)
  isplitl [HR]; · iexact HR
  isplitl [Hc]; · iexact Hc
  isplitl [HO]; · iexact HO
  iexact H1

/-- The lane between the steps of the partial sums, step `n + 1` done; -/
def LaneR (n : ℕ) : sProp 𝕄 :=
  iprop(core (F := F) c d j (n + 1) ∗ fl (F := F) c d j n ∗ fl (F := F) c d j (n + 1)
    ∗ rd (F := F) c d j (n + 1) ∗ rd (F := F) c d j (n + 2) ∗ rowAny (F := F) c (ch c d 15) d j)
/-- and between those of the finished rows, step `n + 15` done. -/
def LaneA (n : ℕ) : sProp 𝕄 :=
  iprop(core (F := F) c d j (n + 15) ∗ fl (F := F) c d j (n + 14) ∗ fl (F := F) c d j (n + 15)
    ∗ bigSep (Finset.Ico 13 (n + 14)) (sdPay m ρ c d j) ∗ rd (F := F) c d j 15 ∗ rd (F := F) c d j 16)

/-- What a lane starts from, the barrier passed; -/
def Lane0 : sProp 𝕄 :=
  iprop((bigSep (Finset.Ico 0 30) (crd (F := F) c d j) ∗ rc (F := F) c d j 0 ∗ rc (F := F) c d j 1 ∗ bigSep (Finset.Ico 0 30) (tk (F := F) c d j))
    ∗ (sc (F := F) c d j 0 ∗ sc (F := F) c d j 1)
    ∗ (rd (F := F) c d j 0 ∗ rd (F := F) c d j 1) ∗ rowAny (F := F) c (ch c d 15) d j
    ∗ (slotAny (F := F) sbM c d j (par 0) ∗ slotAny (F := F) sbM c d j (par 1))
    ∗ (released ES ((nx d c, d, j, par 0) : SKey) 1 ∗ released ES ((nx d c, d, j, par 1) : SKey) 1))
/-- copy 0 started; -/
def Lane1 : sProp 𝕄 :=
  iprop(core (F := F) c d j 0 ∗ (fl (F := F) c d j 0 ∗ sc (F := F) c d j 1)
    ∗ (rd (F := F) c d j 0 ∗ rd (F := F) c d j 1) ∗ rowAny (F := F) c (ch c d 15) d j
    ∗ slotAny (F := F) sbM c d j (par 1) ∗ released ES ((nx d c, d, j, par 1) : SKey) 1)
/-- and what it ends with. -/
def LaneE : sProp 𝕄 :=
  iprop((rc (F := F) c d j 30 ∗ rc (F := F) c d j 31) ∗ (sc (F := F) c d j 30 ∗ sc (F := F) c d j 31)
    ∗ (bigSep (Finset.Ico 13 30) (sdPay m ρ c d j) ∗ rowIs c (ch c d 30) d j (val m ρ d j 30 c))
    ∗ rd (F := F) c d j 15 ∗ rd (F := F) c d j 16)

end Lane

section Steps

variable (c : Dev nD) (d j : Fin 2)

theorem above_mid (q : ℕ) (h : q < 30) : Above (at_ d j q + 2) (owe c (at_ d j q + 1) + copyDue c d j q) :=
  ((above_owe c (at_ d j q + 1)).mono (by omega)).add (above_copy c d j q h)

theorem owe_cred (q : ℕ) (h : q + 1 ≤ 28) :
    owe c (at_ d j (q + 1)) = (owe c (at_ d j (q + 1) + 1) + copyDue c d j (q + 1)) + tallyAt (cell (pv d c) (.cr d)) (2 * q + j.val) 1 := by
  rw [owe_step c d j (q + 1) (by omega), credDue, if_pos ⟨by omega, h⟩, Nat.add_sub_cancel]

/-- The landing slot of copy `q` is read, released, and the fact about it made. -/
theorem slot_done (q : ℕ) (hq : q ≤ 14) (v : FVec F S64x1024 .f32) :
    iprop(Recs m ρ K ιs ∗ rd c d j q ∗ owns (c : Thread nD τ) (slotV (rbM d) j (par q)) fullShare v ∗ reached ER (rvC c d j q) (q / 2 + 1))
      ⊢ iprop(|={Set.univ}=> (rd c d j (q + 2) ∗ fact (F := F) d c (2 * q + j.val)) : sProp 𝕄) := by
  rw [fact_eq, if_pos (by omega : q < 15), ← rd_next]
  rw [show rd (F := F) c d j q = readerAt ES ((c, d, j, par q) : SKey) (q / 2 + 1) from rfl]
  iintro ⟨HR, Hrd, Hs, Hr⟩
  imod (release m ρ K ιs c d j (par q) (q / 2 + 1) v) $$ [HR Hrd Hs] with ⟨Hrd, Hrel⟩
  · isplitl [HR]; · iexact HR
    isplitl [Hrd]; · iexact Hrd
    iexact Hs
  imodintro
  isplitl [Hrd]; · iexact Hrd
  isplitl [Hr]; · iexact Hr
  iexact Hrel

/-- What a wait on a slot, or on rows, asks for. -/
theorem wait_slots (s : DmaSem sig) (mm mm' : Memref sig .tc .vmem S2x2x64x1024 .f32) (j p : Fin 2) (G : PUnit → sProp 𝕄) :
    wpE (defs₀ (F := F)) 𝒱₀ (c : Thread nD τ) none Set.univ (.waitDma2 s (slotV mm j p) (slotV mm' j p) (wexV _ j p) (wexV _ j p)) G
      = waitSpec (c : Thread nD τ) Set.univ (.dma s) N G := by
  rw [wpE_waitDma2_eq, N_slot]

theorem wait_rows (s : DmaSem sig) (a : Fin 16) (d j : Fin 2) (G : PUnit → sProp 𝕄) :
    wpE (defs₀ (F := F)) 𝒱₀ (c : Thread nD τ) none Set.univ
        (.waitDma2 s (rowsV c a d j) (rowsV c a d j) (View.wordExact_bits rfl) (View.wordExact_bits rfl)) G
      = waitSpec (c : Thread nD τ) Set.univ (.dma s) N G := by
  rw [wpE_waitDma2_eq, show (rowsV c a d j).view.dmaCredit = N from rfl]

/-- The waits, over the steps' own pieces. -/
theorem recvSlots {Q : PUnit.{1} → sProp 𝕄} (q n : ℕ) {O : CellTallies nD τ sig ℕ} (hq : q < 30) (hn : at_ d j q + 2 < n) (hO : Above n O)
    (mm mm' : Memref sig .tc .vmem S2x2x64x1024 .f32) (k : P F) :
    iprop(Recs m ρ K ιs ∗ core c d j q ∗ ow c O)
      ⊢ iprop(((mid c d j q ∗ ow c O ∗ reached ER (rvC c d j q) (q / 2 + 1) ∗ rvPay m ρ c d j q) -∗ Run c k Q)
          -∗ Run c (waitSlots (rs d j (par q)) mm mm' j (par q) k) Q) :=
  core_recv m ρ K ιs c d j q n (wait_slots c (rs d j (par q)) mm mm' j (par q)) hq hn hO (fun _ => k)

theorem recvRows {Q : PUnit.{1} → sProp 𝕄} (q n : ℕ) {O : CellTallies nD τ sig ℕ} (hq : q < 30) (hn : at_ d j q + 2 < n) (hO : Above n O)
    (a : Fin 16) (k : P F) :
    iprop(Recs m ρ K ιs ∗ core c d j q ∗ ow c O)
      ⊢ iprop(((mid c d j q ∗ ow c O ∗ reached ER (rvC c d j q) (q / 2 + 1) ∗ rvPay m ρ c d j q) -∗ Run c k Q)
          -∗ Run c (waitRows (rs d j (par q)) c a d j k) Q) :=
  core_recv m ρ K ιs c d j q n (wait_rows c (rs d j (par q)) a d j) hq hn hO (fun _ => k)

theorem sentSlots {Q : PUnit.{1} → sProp 𝕄} (q n : ℕ) {O : CellTallies nD τ sig ℕ} (hq : q < 30) (hn : 0 < n) (hO : Above n O)
    (mm mm' : Memref sig .tc .vmem S2x2x64x1024 .f32) (p : Fin 2) (hp : p = par q) (k : P F) :
    iprop(Recs m ρ K ιs ∗ fl c d j q ∗ ow c O)
      ⊢ iprop(((ow c O ∗ sc c d j (q + 2) ∗ reached ER (sdC c d j (q + 2)) ((q + 2) / 2) ∗ sdPay m ρ c d j q) -∗ Run c k Q)
          -∗ Run c (waitSlots (ss d j p) mm mm' j p k) Q) := by
  subst hp
  exact fl_wait m ρ K ιs c d j q n (wait_slots c (ss d j (par q)) mm mm' j (par q)) hq hn hO (fun _ => k)

theorem sentRows {Q : PUnit.{1} → sProp 𝕄} (q n : ℕ) {O : CellTallies nD τ sig ℕ} (hq : q < 30) (hn : 0 < n) (hO : Above n O)
    (a : Fin 16) (p : Fin 2) (hp : p = par q) (k : P F) :
    iprop(Recs m ρ K ιs ∗ fl c d j q ∗ ow c O)
      ⊢ iprop(((ow c O ∗ sc c d j (q + 2) ∗ reached ER (sdC c d j (q + 2)) ((q + 2) / 2) ∗ sdPay m ρ c d j q) -∗ Run c k Q)
          -∗ Run c (waitRows (ss d j p) c a d j k) Q) := by
  subst hp
  exact fl_wait m ρ K ιs c d j q n (wait_rows c (ss d j (par q)) a d j) hq hn hO (fun _ => k)

/-- What the credit about copy `n` says to copy `n + 2`. -/
theorem fact_next (n : ℕ) : fact (F := F) d c (2 * n + j.val) = iprop(reached ER (rvC c d j (n + 2)) ((n + 2) / 2)
    ∗ (if n < 15 then released ES ((c, d, j, par (n + 2)) : SKey) ((n + 2) / 2 + 1) else iprop(emp))) := by
  rw [fact_eq, div_add_two, par_add_two]; unfold rvC; rw [par_add_two]

theorem fact_slot (n : ℕ) (h : n < 15) : fact (F := F) d c (2 * n + j.val) = iprop(reached ER (rvC c d j (n + 2)) ((n + 2) / 2)
    ∗ released ES ((c, d, j, par (n + 2)) : SKey) ((n + 2) / 2 + 1)) := by
  rw [fact_next, if_pos h]

theorem sdPay_next (n : ℕ) (h : n ≤ 14) : sdPay m ρ c d j n
    = iprop(∃ v, owns (c : Thread nD τ) (slotV (sbM d) j (par (n + 2))) fullShare v) := by
  rw [sdPay_slot m ρ c d j n h, ← par_add_two n]; rfl

/-- Start copy `q`: of a partial sum; -/
theorem start_R {Q : PUnit.{1} → sProp 𝕄} (q : ℕ) (hq : q ≤ 14) {O₀ : CellTallies nD τ sig ℕ} (O : CellTallies nD τ sig ℕ)
    (hO : O₀ = O + copyDue c d j q) (k : P F) :
    iprop(Recs m ρ K ιs ∗ owns (c : Thread nD τ) (slotV (sbM d) j (par q)) fullShare (val m ρ d j q c) ∗ tk (F := F) c d j q
        ∗ (reached ER (rvC (nx d c) d j q) (q / 2) ∗ released ES ((nx d c, d, j, par q) : SKey) (q / 2 + 1))
        ∗ sc c d j q ∗ reached ER (sdC c d j q) (q / 2) ∗ ow c O₀)
      ⊢ iprop(((fl c d j q ∗ ow c O) -∗ Run c k Q) -∗ Run c (sendRS c d j (par q) k) Q) := by
  unfold tk fl
  rw [if_pos hq]
  iintro ⟨HR, Hs, ⟨Ht1, Ht2, Hw⟩, ⟨Hr1, Hl⟩, Hsc, Hr2, HO⟩ Hk
  iapply (rule_sendRS m ρ K ιs c d j q hq O hO k) $$ [HR Hs Ht1 Ht2 Hw Hr1 Hl Hr2 HO]
  · isplitl [HR]; · iexact HR
    isplitl [Hs]; · iexact Hs
    isplitl [Hw Hl]
    · isplitl [Hw]; · iexact Hw
      iexact Hl
    isplitr [HO]
    · unfold ready
      isplitl [Ht1]; · iexact Ht1
      isplitl [Hr1]; · iexact Hr1
      isplitl [Ht2]; · iexact Ht2
      iexact Hr2
    iexact HO
  iintro ⟨Hc, HO⟩
  iapply Hk
  isplitr [HO]
  · isplitl [Hc]; · iexact Hc
    iexact Hsc
  iexact HO

/-- of finished rows. -/
theorem start_A {Q : PUnit.{1} → sProp 𝕄} (q : ℕ) (h15 : 15 ≤ q) (hq : q < 30) {O₀ : CellTallies nD τ sig ℕ} (O : CellTallies nD τ sig ℕ)
    (hO : O₀ = O + copyDue c d j q) (k : P F) :
    iprop(Recs m ρ K ιs ∗ rowIs c (ch c d q) d j (val m ρ d j q c) ∗ tk (F := F) c d j q
        ∗ reached ER (rvC (nx d c) d j q) (q / 2)
        ∗ sc c d j q ∗ reached ER (sdC c d j q) (q / 2) ∗ ow c O₀)
      ⊢ iprop(((fl c d j q ∗ ow c O) -∗ Run c k Q) -∗ Run c (sendAG c (ca d q) d j (par q) k) Q) := by
  unfold tk fl
  rw [if_neg (by omega)]
  iintro ⟨HR, Hs, ⟨Ht1, Ht2, Hw⟩, Hr1, Hsc, Hr2, HO⟩ Hk
  iapply (rule_sendAG m ρ K ιs c d j q h15 hq O hO k) $$ [HR Hs Ht1 Ht2 Hw Hr1 Hr2 HO]
  · isplitl [HR]; · iexact HR
    isplitl [Hs]; · iexact Hs
    isplitl [Hw]; · iexact Hw
    isplitr [HO]
    · unfold ready
      isplitl [Ht1]; · iexact Ht1
      isplitl [Hr1]; · iexact Hr1
      isplitl [Ht2]; · iexact Ht2
      iexact Hr2
    iexact HO
  iintro ⟨Hc, HO⟩
  iapply Hk
  isplitr [HO]
  · isplitl [Hc]; · iexact Hc
    iexact Hsc
  iexact HO

/-- The credit for copy `q` given and the one for copy `n + 2` taken. -/
theorem credits {Q : PUnit.{1} → sProp 𝕄} (n : ℕ) (hn : n + 2 ≤ 28) {i u q : ℕ} (hi : i = 2 * (n + 1) + j.val) (hu : u = 2 * n + j.val) (hq : q = n + 2) (k : P F) :
    iprop(Recs m ρ K ιs ∗ Crs c d i u ∗ fact (F := F) d c i ∗ ow c (owe c (at_ d j q)))
      ⊢ iprop(((Crs c d (i + 1) (u + 1) ∗ ow c (owe c (at_ d j q + 1) + copyDue c d j q)
            ∗ fact (F := F) d (nx d c) u) -∗ Run c k Q)
          -∗ Run c (signalTo (frD d c) (crS d) (waitFor (crS d) 1 k)) Q) := by
  subst hi hu hq
  have hj := j.isLt; have hd := d.isLt
  iintro ⟨#HR, Hcr, Hf, HO⟩ Hk
  iapply (rule_signal_cr m ρ K ιs c d (2 * (n + 1) + j.val) (2 * n + j.val) (by omega) (owe c (at_ d j (n + 2) + 1) + copyDue c d j (n + 2))
    (owe_cred c d j (n + 1) (by omega)) _) $$ [Hcr Hf HO]
  · isplitr; · iexact HR
    isplitl [Hcr]; · iexact Hcr
    isplitl [HO]; · iexact HO
    iexact Hf
  iintro ⟨Hcr, HO⟩
  iapply (rule_wait_cr m ρ K ιs c d (2 * (n + 1) + j.val + 1) (2 * n + j.val) (at_ d j (n + 2) + 2) (by omega)
    (by show _ < 4 * (n + 2) + 2 * j.val + d.val + 2; omega) (above_mid c d j (n + 2) (by omega)) k) $$ [Hcr HO]
  · isplitr; · iexact HR
    isplitl [Hcr]; · iexact Hcr
    iexact HO
  iexact Hk

/-- Copies 2 to 14. -/
theorem step_R {Q : PUnit.{1} → sProp 𝕄} (n : ℕ) (hn : n ≤ 12) (k : P F) :
    iprop(Recs m ρ K ιs ∗ LaneR c d j n ∗ Crs c d (2 * (n + 1) + j.val) (2 * n + j.val) ∗ xPts c (xstg m ρ c) ∗ ow c (owe c (at_ d j (n + 2))))
      ⊢ iprop(((LaneR c d j (n + 1) ∗ Crs c d (2 * (n + 1) + j.val + 1) (2 * n + j.val + 1) ∗ xPts c (xstg m ρ c) ∗ ow c (owe c (at_ d j (n + 2) + 1))) -∗ Run c k Q)
          -∗ Run c (stepR c (n + 2) d j k) Q) := by
  have hO := above_owe c (at_ d j (n + 2))
  unfold LaneR
  iintro ⟨#HR, ⟨Hcore, Hf1, Hf2, Hr1, Hr2, Hrow⟩, Hcr, Hx, HO⟩ Hk
  rw [show stepR (F := F) c (n + 2) d j k = (waitSlots (rs d j (par (n + 1))) (sbM d) (rbM d) j (par (n + 1)) <|
    ldSlot (rbM d) j (par (n + 1)) fun v => ldRows xM c (ca d (n + 2)) d j fun x =>
    waitSlots (ss d j (par (n + 2))) (rbM d) (sbM d) j (par (n + 2)) <| ldSlot (sbM d) j (par (n + 2)) fun _ =>
    stSlot (sbM d) j (par (n + 2)) (toSlot (accOf v x)) <|
    signalTo (frD d c) (crS d) <| waitFor (crS d) 1 (sendRS c d j (par (n + 2)) k)) from rfl]
  iapply (recvSlots m ρ K ιs c d j (n + 1) _ (by omega) (by show 4 * (n + 1) + 2 * j.val + d.val + 2 < 4 * (n + 2) + 2 * j.val + d.val + 2; omega) hO _ _ _) $$ [Hcore HO]
  · isplitr; · iexact HR
    isplitl [Hcore]; · iexact Hcore
    iexact HO
  iintro ⟨Hmid, HO, #Hreach, Hp⟩
  ihave Hp := (Entails.of_eq (rvPay_slot m ρ c d j (n + 1) (by omega))) $$ Hp
  iapply (rule_ldSlot c (rbM d) j (par (n + 1)) (val m ρ d j (n + 1) (pv d c)) _) $$ [Hp]; · iexact Hp
  iintro %X ⟨%hX, Hp⟩
  iapply (rule_ldX c (xstg m ρ c) d j (n + 2) _) $$ [Hx]; · iexact Hx
  iintro Hx
  have hacc : accOf X (xM.view.readAt (Elt F) (rowN (ch c d (n + 2)) d j).toLoadRect (xstg m ρ c)) = val m ρ d j (n + 2) c := by
    rw [val_sum m ρ d j (n + 1) c (by omega), ← hX]; rfl
  iapply (sentSlots m ρ K ιs c d j n _ (by omega) (by omega) hO _ _ _ (par_add_two n) _) $$ [Hf1 HO]
  · isplitr; · iexact HR
    isplitl [Hf1]; · iexact Hf1
    iexact HO
  iintro ⟨HO, Hsc, #Hsr, Hs⟩
  ihave Hs := (Entails.of_eq (sdPay_next m ρ c d j n (by omega))) $$ Hs
  icases Hs with ⟨%w, Hs⟩
  iapply (rule_ldSlot c (sbM d) j (par (n + 2)) w _) $$ [Hs]; · iexact Hs
  iintro %Y ⟨%hY, Hs⟩
  iapply (rule_stSlot c (sbM d) j (par (n + 2)) (accOf X _) w _) $$ [Hs]; · iexact Hs
  iintro Hs
  ihave Hs := (Entails.of_eq (congrArg (owns (c : Thread nD τ) (slotV (sbM d) j (par (n + 2))) fullShare) hacc)) $$ Hs
  imod (slot_done m ρ K ιs c d j (n + 1) (by omega) (val m ρ d j (n + 1) (pv d c))) $$ [Hr1 Hp] with ⟨Hr1, Hfact⟩
  · isplitr; · iexact HR
    isplitl [Hr1]; · iexact Hr1
    isplitl [Hp]; · iexact Hp
    iexact Hreach
  iapply (credits m ρ K ιs c d j n (by omega) rfl rfl rfl _) $$ [Hcr Hfact HO]
  · isplitr; · iexact HR
    isplitl [Hcr]; · iexact Hcr
    isplitl [Hfact]; · iexact Hfact
    iexact HO
  iintro ⟨Hcr, HO, Hfact⟩
  ihave Hfact := (Entails.of_eq (fact_slot (nx d c) d j n (by omega))) $$ Hfact
  ihave Hmid := (mid_core c d j (n + 1) (by omega)) $$ Hmid
  icases Hmid with ⟨Htk, Hcore⟩
  iapply (start_R m ρ K ιs c d j (n + 2) (by omega) _ rfl k) $$ [Hs Htk Hfact Hsc HO]
  · isplitr; · iexact HR
    isplitl [Hs]; · iexact Hs
    isplitl [Htk]; · iexact Htk
    isplitl [Hfact]; · iexact Hfact
    isplitl [Hsc]; · iexact Hsc
    isplitr; · iexact Hsr
    iexact HO
  iintro ⟨Hf, HO⟩
  iapply Hk
  isplitr [Hcr Hx HO]
  · isplitl [Hcore]; · iexact Hcore
    isplitl [Hf2]; · iexact Hf2
    isplitl [Hf]; · iexact Hf
    isplitl [Hr2]; · iexact Hr2
    isplitl [Hr1]; · iexact Hr1
    iexact Hrow
  isplitl [Hcr]; · iexact Hcr
  isplitl [Hx]; · iexact Hx
  iexact HO

/-- Copy 0. -/
theorem step_0 {Q : PUnit.{1} → sProp 𝕄} (k : P F) :
    iprop(Recs m ρ K ιs ∗ Lane0 c d j ∗ Crs c d 0 0 ∗ xPts c (xstg m ρ c) ∗ ow c (owe c (at_ d j 0)))
      ⊢ iprop(((Lane1 c d j ∗ Crs c d 0 0 ∗ xPts c (xstg m ρ c) ∗ ow c (owe c (at_ d j 0 + 1))) -∗ Run c k Q)
          -∗ Run c (step0 c d j k) Q) := by
  unfold Lane0
  rw [ico_first (by omega : 0 < 30) (tk (F := F) c d j)]
  unfold slotAny
  iintro ⟨#HR, ⟨⟨Hcs, Hc0, Hc1, Htk, Htks⟩, ⟨Hs0, Hs1⟩, Hrd, Hrow, ⟨⟨%w, Hs⟩, Hb1⟩, ⟨#Hl0, #Hl1⟩⟩, Hcr, Hx, HO⟩ Hk
  rw [show step0 (F := F) c d j k = (ldRows xM c (ca d 0) d j fun x => ldSlot (sbM d) j (par 0) fun _ =>
    stSlot (sbM d) j (par 0) (toSlot (ofRows x)) (sendRS c d j (par 0) k)) from rfl]
  iapply (rule_ldX c (xstg m ρ c) d j 0 _) $$ [Hx]; · iexact Hx
  iintro Hx
  iapply (rule_ldSlot c (sbM d) j (par 0) w _) $$ [Hs]; · iexact Hs
  iintro %Y ⟨%hY, Hs⟩
  iapply (rule_stSlot c (sbM d) j (par 0) (val m ρ d j 0 c) w _) $$ [Hs]; · iexact Hs
  iintro Hs
  iapply (start_R m ρ K ιs c d j 0 (by omega) (O₀ := owe c (at_ d j 0)) (owe c (at_ d j 0 + 1)) (by
    rw [owe_step c d j 0 (by omega), credDue, if_neg (by omega), add_zero]) k) $$ [Hs Htk Hs0 HO]
  · isplitr; · iexact HR
    isplitl [Hs]; · iexact Hs
    isplitl [Htk]; · iexact Htk
    isplitr
    · isplitr; · iapply (reached_at m ρ K ιs (nx d c) (.rv d j (par 0))); iexact HR
      iexact Hl0
    isplitl [Hs0]; · iexact Hs0
    isplitr; · iapply (reached_at m ρ K ιs c (.sd d j (par 0))); iexact HR
    iexact HO
  iintro ⟨Hf, HO⟩
  iapply Hk
  isplitr [Hcr Hx HO]
  · unfold Lane1 core slotAny
    isplitl [Hcs Hc0 Hc1 Htks]
    · isplitl [Hcs]; · iexact Hcs
      isplitl [Hc0]; · iexact Hc0
      isplitl [Hc1]; · iexact Hc1
      iexact Htks
    isplitl [Hf Hs1]
    · isplitl [Hf]; · iexact Hf
      iexact Hs1
    isplitl [Hrd]; · iexact Hrd
    isplitl [Hrow]; · iexact Hrow
    isplitl [Hb1]; · iexact Hb1
    iexact Hl1
  isplitl [Hcr]; · iexact Hcr
  isplitl [Hx]; · iexact Hx
  iexact HO

/-- Copy 1. -/
theorem step_1 {Q : PUnit.{1} → sProp 𝕄} (k : P F) :
    iprop(Recs m ρ K ιs ∗ Lane1 c d j ∗ Crs c d j.val 0 ∗ xPts c (xstg m ρ c) ∗ ow c (owe c (at_ d j 1)))
      ⊢ iprop(((LaneR c d j 0 ∗ Crs c d (j.val + 1) 0 ∗ xPts c (xstg m ρ c) ∗ ow c (owe c (at_ d j 1 + 1))) -∗ Run c k Q)
          -∗ Run c (step1 c d j k) Q) := by
  have hj := j.isLt; have hd := d.isLt
  have hO := above_owe c (at_ d j 1)
  have hcr : owe c (at_ d j 1) = (owe c (at_ d j 1 + 1) + copyDue c d j 1) + tallyAt (cell (pv d c) (.cr d)) j.val 1 := by
    have h := owe_cred c d j 0 (by omega)
    rw [Nat.mul_zero, Nat.zero_add j.val] at h
    exact h
  unfold Lane1 slotAny
  iintro ⟨#HR, ⟨Hcore, ⟨Hf, Hsc⟩, ⟨Hr0, Hr1⟩, Hrow, ⟨%w, Hs⟩, #Hl⟩, Hcr, Hx, HO⟩ Hk
  rw [show step1 (F := F) c d j k = (waitSlots (rs d j (par 0)) (sbM d) (rbM d) j (par 0) <|
    ldSlot (rbM d) j (par 0) fun v => ldRows xM c (ca d 1) d j fun x => ldSlot (sbM d) j (par 1) fun _ =>
    stSlot (sbM d) j (par 1) (toSlot (accOf v x)) <| signalTo (frD d c) (crS d) (sendRS c d j (par 1) k)) from rfl]
  iapply (recvSlots m ρ K ιs c d j 0 _ (by omega) (by show 4 * 0 + 2 * j.val + d.val + 2 < 4 * 1 + 2 * j.val + d.val + 2; omega) hO _ _ _) $$ [Hcore HO]
  · isplitr; · iexact HR
    isplitl [Hcore]; · iexact Hcore
    iexact HO
  iintro ⟨Hmid, HO, #Hreach, Hp⟩
  ihave Hp := (Entails.of_eq (rvPay_slot m ρ c d j 0 (by omega))) $$ Hp
  iapply (rule_ldSlot c (rbM d) j (par 0) (val m ρ d j 0 (pv d c)) _) $$ [Hp]; · iexact Hp
  iintro %X ⟨%hX, Hp⟩
  iapply (rule_ldX c (xstg m ρ c) d j 1 _) $$ [Hx]; · iexact Hx
  iintro Hx
  have hacc : accOf X (xM.view.readAt (Elt F) (rowN (ch c d 1) d j).toLoadRect (xstg m ρ c)) = val m ρ d j 1 c := by
    rw [val_sum m ρ d j 0 c (by omega), ← hX]; rfl
  iapply (rule_ldSlot c (sbM d) j (par 1) w _) $$ [Hs]; · iexact Hs
  iintro %Y ⟨%hY, Hs⟩
  iapply (rule_stSlot c (sbM d) j (par 1) (accOf X _) w _) $$ [Hs]; · iexact Hs
  iintro Hs
  ihave Hs := (Entails.of_eq (congrArg (owns (c : Thread nD τ) (slotV (sbM d) j (par 1)) fullShare) hacc)) $$ Hs
  imod (slot_done m ρ K ιs c d j 0 (by omega) (val m ρ d j 0 (pv d c))) $$ [Hr0 Hp] with ⟨Hr2, Hfact⟩
  · isplitr; · iexact HR
    isplitl [Hr0]; · iexact Hr0
    isplitl [Hp]; · iexact Hp
    iexact Hreach
  ihave Hfact := (Entails.of_eq (congrArg (fact (F := F) d c) (by omega : 2 * 0 + j.val = j.val))) $$ Hfact
  iapply (rule_signal_cr m ρ K ιs c d j.val 0 (by omega) (owe c (at_ d j 1 + 1) + copyDue c d j 1)
    hcr _) $$ [Hcr Hfact HO]
  · isplitr; · iexact HR
    isplitl [Hcr]; · iexact Hcr
    isplitl [HO]; · iexact HO
    iexact Hfact
  iintro ⟨Hcr, HO⟩
  ihave Hmid := (mid_core c d j 0 (by omega)) $$ Hmid
  icases Hmid with ⟨Htk, Hcore⟩
  iapply (start_R m ρ K ιs c d j 1 (by omega) _ rfl k) $$ [Hs Htk Hsc HO]
  · isplitr; · iexact HR
    isplitl [Hs]; · iexact Hs
    isplitl [Htk]; · iexact Htk
    isplitr
    · isplitr; · iapply (reached_at m ρ K ιs (nx d c) (.rv d j (par 1))); iexact HR
      iexact Hl
    isplitl [Hsc]; · iexact Hsc
    isplitr; · iapply (reached_at m ρ K ιs c (.sd d j (par 1))); iexact HR
    iexact HO
  iintro ⟨Hf1, HO⟩
  iapply Hk
  isplitr [Hcr Hx HO]
  · unfold LaneR
    isplitl [Hcore]; · iexact Hcore
    isplitl [Hf]; · iexact Hf
    isplitl [Hf1]; · iexact Hf1
    isplitl [Hr1]; · iexact Hr1
    isplitl [Hr2]; · iexact Hr2
    iexact Hrow
  isplitl [Hcr]; · iexact Hcr
  isplitl [Hx]; · iexact Hx
  iexact HO

/-- Copy 15. -/
theorem step_15 {Q : PUnit.{1} → sProp 𝕄} (k : P F) :
    iprop(Recs m ρ K ιs ∗ LaneR c d j 13 ∗ Crs c d (2 * 14 + j.val) (2 * 13 + j.val) ∗ xPts c (xstg m ρ c) ∗ ow c (owe c (at_ d j 15)))
      ⊢ iprop(((LaneA m ρ c d j 0 ∗ Crs c d (2 * 14 + j.val + 1) (2 * 13 + j.val + 1) ∗ xPts c (xstg m ρ c) ∗ ow c (owe c (at_ d j 15 + 1))) -∗ Run c k Q)
          -∗ Run c (step15 c d j k) Q) := by
  have hO := above_owe c (at_ d j 15)
  unfold LaneR rowAny
  iintro ⟨#HR, ⟨Hcore, Hf1, Hf2, Hr1, Hr2, ⟨%w, Hrow⟩⟩, Hcr, Hx, HO⟩ Hk
  rw [show step15 (F := F) c d j k = (waitSlots (rs d j (par 14)) (sbM d) (rbM d) j (par 14) <|
    ldSlot (rbM d) j (par 14) fun v => ldRows xM c (ca d 15) d j fun x => waitRows (ss d j 1) c (ca d 15) d j <|
    ldRows oM c (ca d 15) d j fun _ => stRows oM c (ca d 15) d j (fOf (accOf v x)) <|
    signalTo (frD d c) (crS d) <| waitFor (crS d) 1 (sendAG c (ca d 15) d j (par 15) k)) from rfl]
  iapply (recvSlots m ρ K ιs c d j 14 _ (by omega) (by show 4 * 14 + 2 * j.val + d.val + 2 < 4 * 15 + 2 * j.val + d.val + 2; omega) hO _ _ _) $$ [Hcore HO]
  · isplitr; · iexact HR
    isplitl [Hcore]; · iexact Hcore
    iexact HO
  iintro ⟨Hmid, HO, #Hreach, Hp⟩
  ihave Hp := (Entails.of_eq (rvPay_slot m ρ c d j 14 (by omega))) $$ Hp
  iapply (rule_ldSlot c (rbM d) j (par 14) (val m ρ d j 14 (pv d c)) _) $$ [Hp]; · iexact Hp
  iintro %X ⟨%hX, Hp⟩
  iapply (rule_ldX c (xstg m ρ c) d j 15 _) $$ [Hx]; · iexact Hx
  iintro Hx
  have hacc : fOf (accOf X (xM.view.readAt (Elt F) (rowN (ch c d 15) d j).toLoadRect (xstg m ρ c))) = val m ρ d j 15 c := by
    rw [val_fin m ρ d j c, ← hX]; rfl
  iapply (sentRows m ρ K ιs c d j 13 _ (by omega) (by omega) hO _ _ rfl _) $$ [Hf1 HO]
  · isplitr; · iexact HR
    isplitl [Hf1]; · iexact Hf1
    iexact HO
  iintro ⟨HO, Hsc, #Hsr, Hs⟩
  iapply (rule_ldRow c d j 15 w _) $$ [Hrow]; · iexact Hrow
  iintro Hrow
  iapply (rule_stRow c d j 15 (fOf (accOf X _)) w _) $$ [Hrow]; · iexact Hrow
  iintro Hrow
  ihave Hrow := (Entails.of_eq (congrArg (rowIs c (ch c d 15) d j) hacc)) $$ Hrow
  imod (slot_done m ρ K ιs c d j 14 (by omega) (val m ρ d j 14 (pv d c))) $$ [Hr1 Hp] with ⟨Hr1, Hfact⟩
  · isplitr; · iexact HR
    isplitl [Hr1]; · iexact Hr1
    isplitl [Hp]; · iexact Hp
    iexact Hreach
  iapply (credits m ρ K ιs c d j 13 (by omega) rfl rfl rfl _) $$ [Hcr Hfact HO]
  · isplitr; · iexact HR
    isplitl [Hcr]; · iexact Hcr
    isplitl [Hfact]; · iexact Hfact
    iexact HO
  iintro ⟨Hcr, HO, Hfact⟩
  ihave Hfact := (Entails.of_eq (fact_slot (nx d c) d j 13 (by omega))) $$ Hfact
  icases Hfact with ⟨Hfact, Hrel⟩
  ihave Hmid := (mid_core c d j 14 (by omega)) $$ Hmid
  icases Hmid with ⟨Htk, Hcore⟩
  iapply (start_A m ρ K ιs c d j 15 (by omega) (by omega) _ rfl k) $$ [Hrow Htk Hfact Hsc HO]
  · isplitr; · iexact HR
    isplitl [Hrow]; · iexact Hrow
    isplitl [Htk]; · iexact Htk
    isplitl [Hfact]; · iexact Hfact
    isplitl [Hsc]; · iexact Hsc
    isplitr; · iexact Hsr
    iexact HO
  iintro ⟨Hf, HO⟩
  iapply Hk
  isplitr [Hcr Hx HO]
  · unfold LaneA
    isplitl [Hcore]; · iexact Hcore
    isplitl [Hf2]; · iexact Hf2
    isplitl [Hf]; · iexact Hf
    isplitl [Hs]; · iapply (Entails.of_eq (show sdPay m ρ c d j 13 = bigSep (Finset.Ico 13 (0 + 14)) (sdPay m ρ c d j) from (bigSep_singleton).symm)); iexact Hs
    isplitl [Hr2]; · iexact Hr2
    iexact Hr1
  isplitl [Hcr]; · iexact Hcr
  isplitl [Hx]; · iexact Hx
  iexact HO

/-- The rows that came as copy `q` are those of copy `q + 1`. -/
theorem rvPay_next (q : ℕ) (h : 15 ≤ q) : rvPay m ρ c d j q = rowIs c (ch c d (q + 1)) d j (val m ρ d j (q + 1) c) := by
  rw [rvPay_row m ρ c d j q h, val_pass m ρ d j q c h]

theorem lane_more (n : ℕ) : iprop(bigSep (Finset.Ico 13 (n + 14)) (sdPay m ρ c d j) ∗ sdPay m ρ c d j (n + 14))
    ⊢ bigSep (Finset.Ico 13 (n + 1 + 14)) (sdPay m ρ c d j) := by
  rw [show n + 1 + 14 = n + 14 + 1 from by omega, ico_last (by omega : 13 ≤ n + 14) (sdPay m ρ c d j)]
  iintro ⟨H1, H2⟩
  isplitl [H2]; · iexact H2
  iexact H1

/-- Copies 16 to 28. -/
theorem step_A {Q : PUnit.{1} → sProp 𝕄} (n : ℕ) (hn : n ≤ 12) (k : P F) :
    iprop(Recs m ρ K ιs ∗ LaneA m ρ c d j n ∗ Crs c d (2 * (n + 15) + j.val) (2 * (n + 14) + j.val) ∗ xPts c (xstg m ρ c) ∗ ow c (owe c (at_ d j (n + 16))))
      ⊢ iprop(((LaneA m ρ c d j (n + 1) ∗ Crs c d (2 * (n + 15) + j.val + 1) (2 * (n + 14) + j.val + 1) ∗ xPts c (xstg m ρ c) ∗ ow c (owe c (at_ d j (n + 16) + 1))) -∗ Run c k Q)
          -∗ Run c (stepA c (n + 16) d j k) Q) := by
  have hO := above_owe c (at_ d j (n + 16))
  unfold LaneA
  iintro ⟨#HR, ⟨Hcore, Hf1, Hf2, Hss, Hr⟩, Hcr, Hx, HO⟩ Hk
  rw [show stepA (F := F) c (n + 16) d j k = (waitRows (rs d j (par (n + 15))) c (ca d (n + 15)) d j <|
    waitRows (ss d j (par (n + 16))) c (ca d (n + 16)) d j <|
    signalTo (frD d c) (crS d) <| waitFor (crS d) 1 (sendAG c (ca d (n + 16)) d j (par (n + 16)) k)) from rfl]
  iapply (recvRows m ρ K ιs c d j (n + 15) _ (by omega) (by show 4 * (n + 15) + 2 * j.val + d.val + 2 < 4 * (n + 16) + 2 * j.val + d.val + 2; omega) hO _ _) $$ [Hcore HO]
  · isplitr; · iexact HR
    isplitl [Hcore]; · iexact Hcore
    iexact HO
  iintro ⟨Hmid, HO, #Hreach, Hp⟩
  ihave Hrow := (Entails.of_eq (rvPay_next m ρ c d j (n + 15) (by omega))) $$ Hp
  iapply (sentRows m ρ K ιs c d j (n + 14) _ (by omega) (by omega) hO _ _ (par_add_two (n + 14)) _) $$ [Hf1 HO]
  · isplitr; · iexact HR
    isplitl [Hf1]; · iexact Hf1
    iexact HO
  iintro ⟨HO, Hsc, #Hsr, Hs⟩
  ihave #Hfact : fact (F := F) d c (2 * (n + 15) + j.val) $$ []
  · iapply (Entails.of_eq (show iprop(reached ER (rvC c d j (n + 15)) ((n + 15) / 2 + 1) ∗ emp) = fact (F := F) d c (2 * (n + 15) + j.val) from by
      rw [fact_eq, if_neg (by omega)]))
    isplitr; · iexact Hreach
    iempintro
  iapply (credits m ρ K ιs c d j (n + 14) (by omega) rfl rfl rfl _) $$ [Hcr HO]
  · isplitr; · iexact HR
    isplitl [Hcr]; · iexact Hcr
    isplitr; · iexact Hfact
    iexact HO
  iintro ⟨Hcr, HO, Hfact'⟩
  ihave Hfact' := (Entails.of_eq (fact_next (nx d c) d j (n + 14))) $$ Hfact'
  icases Hfact' with ⟨Hfact', Hrel⟩
  ihave Hmid := (mid_core c d j (n + 15) (by omega)) $$ Hmid
  icases Hmid with ⟨Htk, Hcore⟩
  iapply (start_A m ρ K ιs c d j (n + 16) (by omega) (by omega) _ rfl k) $$ [Hrow Htk Hfact' Hsc HO]
  · isplitr; · iexact HR
    isplitl [Hrow]; · iexact Hrow
    isplitl [Htk]; · iexact Htk
    isplitl [Hfact']; · iexact Hfact'
    isplitl [Hsc]; · iexact Hsc
    isplitr; · iexact Hsr
    iexact HO
  iintro ⟨Hf, HO⟩
  iapply Hk
  isplitr [Hcr Hx HO]
  · rw [show n + 1 + 15 = n + 16 from by omega]
    isplitl [Hcore]; · iexact Hcore
    isplitl [Hf2]; · rw [show n + 1 + 14 = n + 15 from by omega]; iexact Hf2
    isplitl [Hf]; · iexact Hf
    isplitl [Hss Hs]
    · iapply (lane_more m ρ c d j n)
      isplitl [Hss]; · iexact Hss
      iexact Hs
    iexact Hr
  isplitl [Hcr]; · iexact Hcr
  isplitl [Hx]; · iexact Hx
  iexact HO

/-- Copy 29. -/
theorem step_29 {Q : PUnit.{1} → sProp 𝕄} (k : P F) :
    iprop(Recs m ρ K ιs ∗ LaneA m ρ c d j 13 ∗ Crs c d 56 (2 * 27 + j.val) ∗ xPts c (xstg m ρ c) ∗ ow c (owe c (at_ d j 29)))
      ⊢ iprop(((LaneA m ρ c d j 14 ∗ Crs c d 56 (2 * 27 + j.val + 1) ∗ xPts c (xstg m ρ c) ∗ ow c (owe c (at_ d j 29 + 1))) -∗ Run c k Q)
          -∗ Run c (step29 c d j k) Q) := by
  have hj := j.isLt; have hd := d.isLt
  have hO := above_owe c (at_ d j 29)
  unfold LaneA
  iintro ⟨#HR, ⟨Hcore, Hf1, Hf2, Hss, Hr⟩, Hcr, Hx, HO⟩ Hk
  rw [show step29 (F := F) c d j k = (waitRows (rs d j (par 28)) c (ca d 28) d j <|
    waitRows (ss d j 1) c (ca d 29) d j <| waitFor (crS d) 1 (sendAG c (ca d 29) d j (par 29) k)) from rfl]
  iapply (recvRows m ρ K ιs c d j 28 _ (by omega) (by show 4 * 28 + 2 * j.val + d.val + 2 < 4 * 29 + 2 * j.val + d.val + 2; omega) hO _ _) $$ [Hcore HO]
  · isplitr; · iexact HR
    isplitl [Hcore]; · iexact Hcore
    iexact HO
  iintro ⟨Hmid, HO, #Hreach, Hp⟩
  ihave Hrow := (Entails.of_eq (rvPay_next m ρ c d j 28 (by omega))) $$ Hp
  iapply (sentRows m ρ K ιs c d j 27 _ (by omega) (by omega) hO _ _ rfl _) $$ [Hf1 HO]
  · isplitr; · iexact HR
    isplitl [Hf1]; · iexact Hf1
    iexact HO
  iintro ⟨HO, Hsc, #Hsr, Hs⟩
  iapply (rule_wait_cr m ρ K ιs c d 56 (2 * 27 + j.val) _ (by omega)
    (by show _ < 4 * 29 + 2 * j.val + d.val + 2; omega) hO _) $$ [Hcr HO]
  · isplitr; · iexact HR
    isplitl [Hcr]; · iexact Hcr
    iexact HO
  iintro ⟨Hcr, HO, Hfact'⟩
  ihave Hfact' := (Entails.of_eq (fact_next (nx d c) d j 27)) $$ Hfact'
  icases Hfact' with ⟨Hfact', Hrel⟩
  ihave Hmid := (mid_core c d j 28 (by omega)) $$ Hmid
  icases Hmid with ⟨Htk, Hcore⟩
  iapply (start_A m ρ K ιs c d j 29 (by omega) (by omega) (O₀ := owe c (at_ d j 29)) (owe c (at_ d j 29 + 1)) (by
    rw [owe_step c d j 29 (by omega), credDue, if_neg (by omega), add_zero]) k) $$ [Hrow Htk Hfact' Hsc HO]
  · isplitr; · iexact HR
    isplitl [Hrow]; · iexact Hrow
    isplitl [Htk]; · iexact Htk
    isplitl [Hfact']; · iexact Hfact'
    isplitl [Hsc]; · iexact Hsc
    isplitr; · iexact Hsr
    iexact HO
  iintro ⟨Hf, HO⟩
  iapply Hk
  isplitr [Hcr Hx HO]
  · isplitl [Hcore]; · iexact Hcore
    isplitl [Hf2]; · iexact Hf2
    isplitl [Hf]; · iexact Hf
    isplitl [Hss Hs]
    · iapply (lane_more m ρ c d j 13)
      isplitl [Hss]; · iexact Hss
      iexact Hs
    iexact Hr
  isplitl [Hcr]; · iexact Hcr
  isplitl [Hx]; · iexact Hx
  iexact HO

/-- The last waits. -/
theorem step_E {Q : PUnit.{1} → sProp 𝕄} (k : P F) :
    iprop(Recs m ρ K ιs ∗ LaneA m ρ c d j 14 ∗ Crs c d 56 56 ∗ xPts c (xstg m ρ c) ∗ ow c 0)
      ⊢ iprop(((LaneE m ρ c d j ∗ Crs c d 56 56 ∗ xPts c (xstg m ρ c) ∗ ow c 0) -∗ Run c k Q)
          -∗ Run c (fin c d j k) Q) := by
  have hO : Above (at_ d j 30) 0 := .zero _
  unfold LaneA
  iintro ⟨#HR, ⟨Hcore, Hf1, Hf2, Hss, Hr⟩, Hcr, Hx, HO⟩ Hk
  rw [show fin (F := F) c d j k = (waitRows (rs d j (par 29)) c (ca d 29) d j <|
    waitRows (ss d j 0) c (ca d 28) d j <| waitRows (ss d j 1) c (ca d 29) d j k) from rfl]
  iapply (recvRows m ρ K ιs c d j 29 _ (by omega) (by show 4 * 29 + 2 * j.val + d.val + 2 < 4 * 30 + 2 * j.val + d.val; omega) hO _ _) $$ [Hcore HO]
  · isplitr; · iexact HR
    isplitl [Hcore]; · iexact Hcore
    iexact HO
  iintro ⟨Hmid, HO, #Hreach, Hp⟩
  ihave Hrow := (Entails.of_eq (rvPay_next m ρ c d j 29 (by omega))) $$ Hp
  have hpos : 0 < at_ d j 30 := by show 0 < 4 * 30 + 2 * j.val + d.val; omega
  iapply (sentRows m ρ K ιs c d j 28 _ (by omega) hpos hO _ _ rfl _) $$ [Hf1 HO]
  · isplitr; · iexact HR
    isplitl [Hf1]; · iexact Hf1
    iexact HO
  iintro ⟨HO, Hs0, #Hsr0, Hp0⟩
  iapply (sentRows m ρ K ιs c d j 29 _ (by omega) hpos hO _ _ rfl _) $$ [Hf2 HO]
  · isplitr; · iexact HR
    isplitl [Hf2]; · iexact Hf2
    iexact HO
  iintro ⟨HO, Hs1, #Hsr1, Hp1⟩
  iapply Hk
  isplitr [Hcr Hx HO]
  · unfold LaneE mid
    icases Hmid with ⟨He, H1, H2, Ht⟩
    isplitl [H1 H2]
    · isplitl [H1]; · iexact H1
      iexact H2
    isplitl [Hs0 Hs1]
    · isplitl [Hs0]; · iexact Hs0
      iexact Hs1
    isplitl [Hss Hp0 Hp1 Hrow]
    · isplitl [Hss Hp0 Hp1]
      · iapply (lane_more m ρ c d j 15)
        isplitl [Hss Hp0]
        · iapply (lane_more m ρ c d j 14)
          isplitl [Hss]; · iexact Hss
          iexact Hp0
        iexact Hp1
      iexact Hrow
    iexact Hr
  isplitl [Hcr]; · iexact Hcr
  isplitl [Hx]; · iexact Hx
  iexact HO

end Steps

end Cert.KernelIdeal.Run

end
-- ==== Proof.KernelIdealRun.Lanes.lean ====
/-
The four lanes together: a stage is its step on each, and the stages follow one another.
-/
module

public import proofs.«01_k».proof.Proof.KernelIdealRun.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (ιs : SKey → ℕ)

section Stage

variable (c : Dev nD)

/-- The lanes at `A`, with `i` credits given and `u` taken each way. -/
def St (A : Fin 2 → Fin 2 → sProp 𝕄) (i u : ℕ) (O : CellTallies nD τ sig ℕ) : sProp 𝕄 :=
  iprop(Crs c 0 i u ∗ Crs c 1 i u ∗ xPts c (xstg m ρ c) ∗ ow c O ∗ A 0 0 ∗ A 1 0 ∗ A 0 1 ∗ A 1 1)

/-- A stage, from its step. -/
theorem lanes_run {Q : PUnit.{1} → sProp 𝕄} (A B : Fin 2 → Fin 2 → sProp 𝕄) (a b i u i₂ u₂ q : ℕ) (O : ℕ → CellTallies nD τ sig ℕ)
    (f : Fin 2 → Fin 2 → P F → P F)
    (hf : ∀ (d j : Fin 2) (k : P F) (i' u' t : ℕ), i' = i + a * j.val → u' = u + b * j.val → t = at_ d j q →
      iprop(Recs m ρ K ιs ∗ A d j ∗ Crs c d i' u' ∗ xPts c (xstg m ρ c) ∗ ow c (O t))
        ⊢ iprop(((B d j ∗ Crs c d (i' + a) (u' + b) ∗ xPts c (xstg m ρ c) ∗ ow c (O (t + 1))) -∗ Run c k Q) -∗ Run c (f d j k) Q))
    (hi : i₂ = i + a + a) (hu : u₂ = u + b + b) (k : P F) :
    iprop(Recs m ρ K ιs ∗ St m ρ c A i u (O (4 * q)))
      ⊢ iprop((St m ρ c B i₂ u₂ (O (4 * q + 1 + 1 + 1 + 1)) -∗ Run c k Q) -∗ Run c (lanes f k) Q) := by
  subst hi hu
  unfold St lanes
  iintro ⟨#HR, H0, H1, Hx, HO, A00, A10, A01, A11⟩ Hk
  iapply (hf 0 0 _ i u (4 * q) (by simp) (by simp) (by simp [at_])) $$ [A00 H0 Hx HO]
  · isplitr; · iexact HR
    isplitl [A00]; · iexact A00
    isplitl [H0]; · iexact H0
    isplitl [Hx]; · iexact Hx
    iexact HO
  iintro ⟨A00, H0, Hx, HO⟩
  iapply (hf 1 0 _ i u (4 * q + 1) (by simp) (by simp) (by simp [at_])) $$ [A10 H1 Hx HO]
  · isplitr; · iexact HR
    isplitl [A10]; · iexact A10
    isplitl [H1]; · iexact H1
    isplitl [Hx]; · iexact Hx
    iexact HO
  iintro ⟨A10, H1, Hx, HO⟩
  iapply (hf 0 1 _ (i + a) (u + b) (4 * q + 1 + 1) (by simp) (by simp) (by simp [at_])) $$ [A01 H0 Hx HO]
  · isplitr; · iexact HR
    isplitl [A01]; · iexact A01
    isplitl [H0]; · iexact H0
    isplitl [Hx]; · iexact Hx
    iexact HO
  iintro ⟨A01, H0, Hx, HO⟩
  iapply (hf 1 1 _ (i + a) (u + b) (4 * q + 1 + 1 + 1) (by simp) (by simp) (by simp [at_])) $$ [A11 H1 Hx HO]
  · isplitr; · iexact HR
    isplitl [A11]; · iexact A11
    isplitl [H1]; · iexact H1
    isplitl [Hx]; · iexact Hx
    iexact HO
  iintro ⟨A11, H1, Hx, HO⟩
  iapply Hk
  isplitl [H0]; · iexact H0
  isplitl [H1]; · iexact H1
  isplitl [Hx]; · iexact Hx
  isplitl [HO]; · iexact HO
  isplitl [A00]; · iexact A00
  isplitl [A10]; · iexact A10
  isplitl [A01]; · iexact A01
  iexact A11

/-- Thirteen stages alike. -/
theorem stages_run {Q : PUnit.{1} → sProp 𝕄} (A : ℕ → Fin 2 → Fin 2 → sProp 𝕄) (i u q : ℕ) (f : ℕ → Fin 2 → Fin 2 → P F → P F)
    (hf : ∀ (n : ℕ) (d j : Fin 2) (k : P F) (i' u' t : ℕ), n ≤ 12 → i' = i + 2 * n + 1 * j.val → u' = u + 2 * n + 1 * j.val → t = at_ d j (q + n) →
      iprop(Recs m ρ K ιs ∗ A n d j ∗ Crs c d i' u' ∗ xPts c (xstg m ρ c) ∗ ow c (owe c t))
        ⊢ iprop(((A (n + 1) d j ∗ Crs c d (i' + 1) (u' + 1) ∗ xPts c (xstg m ρ c) ∗ ow c (owe c (t + 1))) -∗ Run c k Q) -∗ Run c (f (q + n) d j k) Q))
    (k : P F) : ∀ (N n : ℕ), N + n = 13 →
    iprop(Recs m ρ K ιs ∗ St m ρ c (A n) (i + 2 * n) (u + 2 * n) (owe c (4 * (q + n))))
      ⊢ iprop((St m ρ c (A 13) (i + 26) (u + 26) (owe c (4 * (q + 13))) -∗ Run c k Q) -∗ Run c (stages f N (q + n) k) Q) := by
  intro N
  induction N with
  | zero =>
    intro n hn
    obtain rfl : n = 13 := by omega
    show _ ⊢ iprop(_ -∗ Run c k Q)
    iintro ⟨-, H⟩ Hk
    iapply Hk; iexact H
  | succ N ih =>
    intro n hn
    show _ ⊢ iprop(_ -∗ Run c (lanes (f (q + n)) (stages f N (q + (n + 1)) k)) Q)
    iintro ⟨#HR, H⟩ Hk
    iapply (lanes_run m ρ K ιs c (A n) (A (n + 1)) 1 1 (i + 2 * n) (u + 2 * n) (i + 2 * (n + 1)) (u + 2 * (n + 1)) (q + n) (owe c) (f (q + n))
      (fun d j k i' u' t hi hu ht => hf n d j k i' u' t (by omega) hi hu ht) (by omega) (by omega) _) $$ [H]
    · isplitr; · iexact HR
      iexact H
    iintro H
    iapply (ih (n + 1) (by omega)) $$ [H]
    · isplitr; · iexact HR
      iexact H
    iexact Hk

/-- The lanes from the barrier to the end. -/
theorem run_lanes {Q : PUnit.{1} → sProp 𝕄} (k : P F) :
    iprop(Recs m ρ K ιs ∗ St m ρ c (Lane0 c) 0 0 (owe c 0))
      ⊢ iprop((St m ρ c (LaneE m ρ c) 56 56 0 -∗ Run c k Q)
        -∗ Run c (lanes (step0 c) <| lanes (step1 c) <| stages (stepR c) 13 2 <| lanes (step15 c) <|
            stages (stepA c) 13 16 <| lanes (step29 c) <| lanes (fin c) k) Q) := by
  iintro ⟨#HR, H⟩ Hk
  iapply (lanes_run m ρ K ιs c (Lane0 c) (Lane1 c) 0 0 0 0 0 0 0 (owe c) (step0 c) (fun d j k i' u' t hi hu ht => by
    subst hi hu ht
    simp only [Nat.zero_mul, Nat.add_zero]
    exact step_0 m ρ K ιs c d j k) rfl rfl _) $$ [H]
  · isplitr; · iexact HR
    iexact H
  iintro H
  iapply (lanes_run m ρ K ιs c (Lane1 c) (fun d j => LaneR c d j 0) 1 0 0 0 2 0 1 (owe c) (step1 c) (fun d j k i' u' t hi hu ht => by
    subst hi hu ht
    simp only [Nat.zero_mul, Nat.add_zero, Nat.one_mul, Nat.zero_add]
    exact step_1 m ρ K ιs c d j k) rfl rfl _) $$ [H]
  · isplitr; · iexact HR
    iexact H
  iintro H
  iapply (stages_run m ρ K ιs c (fun n d j => LaneR c d j n) 2 0 2 (stepR c) (fun n d j k i' u' t hn hi hu ht => by
    obtain rfl : i' = 2 * (n + 1) + j.val := by omega
    obtain rfl : u' = 2 * n + j.val := by omega
    subst ht
    rw [Nat.add_comm 2 n]
    exact step_R m ρ K ιs c d j n hn k) _ 13 0 rfl) $$ [H]
  · isplitr; · iexact HR
    iexact H
  iintro H
  iapply (lanes_run m ρ K ιs c (fun d j => LaneR c d j 13) (fun d j => LaneA m ρ c d j 0) 1 1 28 26 30 28 15 (owe c) (step15 c) (fun d j k i' u' t hi hu ht => by
    subst hi hu ht
    simp only [Nat.one_mul]
    exact step_15 m ρ K ιs c d j k) rfl rfl _) $$ [H]
  · isplitr; · iexact HR
    iexact H
  iintro H
  iapply (stages_run m ρ K ιs c (fun n d j => LaneA m ρ c d j n) 30 28 16 (stepA c) (fun n d j k i' u' t hn hi hu ht => by
    obtain rfl : i' = 2 * (n + 15) + j.val := by omega
    obtain rfl : u' = 2 * (n + 14) + j.val := by omega
    subst ht
    rw [Nat.add_comm 16 n]
    exact step_A m ρ K ιs c d j n hn k) _ 13 0 rfl) $$ [H]
  · isplitr; · iexact HR
    iexact H
  iintro H
  iapply (lanes_run m ρ K ιs c (fun d j => LaneA m ρ c d j 13) (fun d j => LaneA m ρ c d j 14) 0 1 56 54 56 56 29 (owe c) (step29 c) (fun d j k i' u' t hi hu ht => by
    subst hi hu ht
    simp only [Nat.one_mul, Nat.zero_mul, Nat.add_zero]
    exact step_29 m ρ K ιs c d j k) rfl rfl _) $$ [H]
  · isplitr; · iexact HR
    iexact H
  iintro H
  ihave H := (Entails.of_eq (congrArg (St m ρ c (fun d j => LaneA m ρ c d j 14) 56 56) (owe_end c))) $$ H
  iapply (lanes_run m ρ K ιs c (fun d j => LaneA m ρ c d j 14) (LaneE m ρ c) 0 0 56 56 56 56 30 (fun _ => 0) (fin c) (fun d j k i' u' t hi hu ht => by
    subst hi hu ht
    simp only [Nat.zero_mul, Nat.add_zero]
    exact step_E m ρ K ιs c d j k) rfl rfl _) $$ [H]
  · isplitr; · iexact HR
    iexact H
  iexact Hk

end Stage

end Cert.KernelIdeal.Run

end
-- ==== Proof.KernelIdealRun.Buffers.lean ====
/-
The buffers in parts: the slots of a staging buffer, the rows of the result, and back.
-/
module

public import proofs.«01_k».proof.Proof.KernelIdealRun.Lanes
public import Idealize.ShloMosaic.Lib.MemrefSat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## Slots -/

def slotT (t : Fin 2 × Fin 2) : Rect S2x2x64x1024 := slotR t.1 t.2

theorem mem_slotT (t : Fin 2 × Fin 2) (i : S2x2x64x1024.Idx) : i ∈ (slotT t).set ↔ (i 0).val = t.1.val ∧ (i 1).val = t.2.val := by
  unfold slotT
  rw [Rect.mem_set_unit, Fin.forall_fin_succ, Fin.forall_fin_succ, Fin.forall_fin_succ, Fin.forall_fin_one]
  have h2 : (i 2).val < 64 := (i 2).isLt
  have h3 : (i 3).val < 1024 := (i 3).isLt
  show (t.1.val ≤ (i 0).val ∧ (i 0).val < t.1.val + 1) ∧ (t.2.val ≤ (i 1).val ∧ (i 1).val < t.2.val + 1)
    ∧ (0 ≤ (i 2).val ∧ (i 2).val < 0 + 64) ∧ (0 ≤ (i 3).val ∧ (i 3).val < 0 + 1024) ↔ _
  omega

theorem slotT_disj (t t' : Fin 2 × Fin 2) (h : t ≠ t') : Disjoint (slotT t).set (slotT t').set := by
  rw [Finset.disjoint_left]
  intro i h1 h2
  rw [mem_slotT] at h1 h2
  exact h (Prod.ext (Fin.ext (h1.1.symm.trans h2.1)) (Fin.ext (h1.2.symm.trans h2.2)))

theorem slotT_cov : (Finset.univ : Finset (Fin 2 × Fin 2)).biUnion (fun t => (slotT t).set) = Finset.univ := by
  refine Finset.eq_univ_of_forall fun i => Finset.mem_biUnion.mpr ⟨((i 0 : Fin 2), (i 1 : Fin 2)), Finset.mem_univ _, ?_⟩
  rw [mem_slotT]; exact ⟨rfl, rfl⟩

/-- A staging buffer at any contents. -/
def bufAny (c : Dev nD) (mm : Memref sig .tc .vmem S2x2x64x1024 .f32) : sProp 𝕄 := iprop(∃ X, owns (c : Thread nD τ) mm fullShare X)

theorem slot_of (c : Dev nD) (b : Fin 2 → Memref sig .tc .vmem S2x2x64x1024 .f32) (d j p : Fin 2) (X) :
    (owns (c : Thread nD τ) ((b d).slice (slotR j p) (fun _ => rfl)) fullShare X : sProp 𝕄) ⊢ slotAny b c d j p := by
  unfold slotAny owns
  iintro ⟨%f, %hf, H⟩
  iexists (slotV (b d) j p).view.read (Elt F) f
  iexists f
  isplitr; · ipureintro; rfl
  iapply (Entails.of_eq (congrArg (fun S => (((slotV (b d) j p).view.loc (c : Thread nD τ)) ↦[S]{fullShare} f : sProp 𝕄)) (set_slot (b d) j p)))
  iexact H

theorem of_slot (c : Dev nD) (b : Fin 2 → Memref sig .tc .vmem S2x2x64x1024 .f32) (d j p : Fin 2) :
    slotAny (F := F) b c d j p ⊢ iprop(∃ X, owns (c : Thread nD τ) ((b d).slice (slotR j p) (fun _ => rfl)) fullShare X) := by
  unfold slotAny owns
  iintro ⟨%v, %f, %hf, H⟩
  iexists ((b d).slice (slotR j p) (fun _ => rfl)).view.read (Elt F) f
  iexists f
  isplitr; · ipureintro; rfl
  iapply (Entails.of_eq (congrArg (fun S => (((slotV (b d) j p).view.loc (c : Thread nD τ)) ↦[S]{fullShare} f : sProp 𝕄)) (set_slot (b d) j p).symm))
  iexact H

theorem slots_split (c : Dev nD) (b : Fin 2 → Memref sig .tc .vmem S2x2x64x1024 .f32) (d : Fin 2) :
    bufAny (F := F) c (b d) ⊢ bigSep Finset.univ fun t : Fin 2 × Fin 2 => slotAny b c d t.1 t.2 := by
  unfold bufAny
  iintro ⟨%X, H⟩
  iapply ((owns_rects (c : Thread nD τ) (b d) fullShare slotT (fun _ _ => rfl) slotT_disj slotT_cov X).trans
    (bigSep_mono fun t _ => slot_of c b d t.1 t.2 _))
  iexact H

theorem slots_join (c : Dev nD) (b : Fin 2 → Memref sig .tc .vmem S2x2x64x1024 .f32) (d : Fin 2) :
    (bigSep Finset.univ fun t : Fin 2 × Fin 2 => slotAny (F := F) b c d t.1 t.2) ⊢ bufAny c (b d) := by
  refine (bigSep_mono fun t _ => of_slot c b d t.1 t.2).trans ?_
  haveI (t : Fin 2 × Fin 2) : Nonempty ((slotT t).shape.Idx → Elt F .f32) := ⟨fun _ => ((inferInstance : ∀ e, Nonempty (Elt F e)) .f32).some⟩
  refine (BI.bigSep_exists_pi Finset.univ (fun (t : Fin 2 × Fin 2) X =>
    (owns (c : Thread nD τ) ((b d).slice (slotT t) (fun _ => rfl)) fullShare X : sProp 𝕄))).trans ?_
  unfold bufAny
  iintro ⟨%Xs, H⟩
  have hg (t : Fin 2 × Fin 2) : (fun y => Rect.glue slotT slotT_cov Xs ((slotT t).emb y)) = Xs t :=
    funext fun y => Rect.glue_emb slotT slotT_cov slotT_disj Xs t y
  iexists Rect.glue slotT slotT_cov Xs
  iapply (owns_of_rects (c : Thread nD τ) (b d) fullShare slotT (fun _ _ => rfl) slotT_disj slotT_cov (Rect.glue slotT slotT_cov Xs))
  simp only [hg]
  iexact H

/-! ## Rows -/

abbrev RT := Fin 16 × Fin 2 × Fin 2

def rowT (t : RT) : Rect S4096x1024 := rowN t.1 t.2.1 t.2.2

theorem mem_rowT (t : RT) (i : S4096x1024.Idx) : i ∈ (rowT t).set ↔ (i 0).val / 64 = 4 * t.1.val + 2 * t.2.1.val + t.2.2.val := by
  unfold rowT rowN
  rw [Rect.mem_set_unit, Fin.forall_fin_succ, Fin.forall_fin_one]
  have h1 : (i 1).val < 1024 := (i 1).isLt
  show (256 * t.1.val + 128 * t.2.1.val + 64 * t.2.2.val ≤ (i 0).val ∧ (i 0).val < 256 * t.1.val + 128 * t.2.1.val + 64 * t.2.2.val + 64)
    ∧ (0 ≤ (i 1).val ∧ (i 1).val < 0 + 1024) ↔ _
  omega

theorem rowT_disj (t t' : RT) (h : t ≠ t') : Disjoint (rowT t).set (rowT t').set := by
  rw [Finset.disjoint_left]
  intro i h1 h2
  rw [mem_rowT] at h1 h2
  have := t.2.1.isLt; have := t.2.2.isLt; have := t'.2.1.isLt; have := t'.2.2.isLt
  exact h (Prod.ext (Fin.ext (by omega)) (Prod.ext (Fin.ext (by omega)) (Fin.ext (by omega))))

/-- The chunk, direction and half of row `i`. -/
def tOf (i : ℕ) (h : i < 4096) : RT := (⟨i / 256, by omega⟩, ⟨i / 128 % 2, by omega⟩, ⟨i / 64 % 2, by omega⟩)

theorem rowT_cov : (Finset.univ : Finset RT).biUnion (fun t => (rowT t).set) = Finset.univ := by
  refine Finset.eq_univ_of_forall fun i => Finset.mem_biUnion.mpr ⟨tOf (i 0).val (i 0).isLt, Finset.mem_univ _, ?_⟩
  rw [mem_rowT]
  show (i 0).val / 64 = 4 * ((i 0).val / 256) + 2 * ((i 0).val / 128 % 2) + (i 0).val / 64 % 2
  omega

/-- The copy that leaves chunk `k` where it is at the end. -/
def qOf (c : Dev nD) (d : Fin 2) (k : Fin 16) : ℕ :=
  match d with
  | 0 => 15 + (c.val + 17 - k.val) % 16
  | 1 => 15 + (k.val + 17 - c.val) % 16

theorem qOf_ch (c : Dev nD) (d : Fin 2) (q : ℕ) (h1 : 15 ≤ q) (h2 : q < 31) : qOf c d (ch c d q) = q := by
  have hc : c.val < 16 := c.isLt
  match d with
  | 0 => simp only [qOf, ch, ca]; omega
  | 1 => simp only [qOf, ch, ca]; omega

theorem ch_qOf (c : Dev nD) (d : Fin 2) (k : Fin 16) : ch c d (qOf c d k) = k ∧ 15 ≤ qOf c d k ∧ qOf c d k < 31 := by
  have hc : c.val < 16 := c.isLt
  have hk := k.isLt
  match d with
  | 0 => exact ⟨Fin.ext (by simp only [qOf, ch, ca]; omega), by simp only [qOf]; omega, by simp only [qOf]; omega⟩
  | 1 => exact ⟨Fin.ext (by simp only [qOf, ch, ca]; omega), by simp only [qOf]; omega, by simp only [qOf]; omega⟩

/-- The chunks in the order of their copies. -/
theorem by_copies (c : Dev nD) (d : Fin 2) (Φ : Fin 16 → sProp 𝕄) :
    bigSep Finset.univ Φ = bigSep (Finset.Ico 15 31) (fun q => Φ (ch c d q)) := by
  rw [← bigSep_image_of_injOn (f := ch c d) (s := Finset.Ico 15 31) (fun a ha b hb h => by
    rw [Finset.coe_Ico, Set.mem_Ico] at ha hb
    rw [← qOf_ch c d a ha.1 ha.2, ← qOf_ch c d b hb.1 hb.2, h]) Φ]
  refine congrArg (fun S => bigSep S Φ) ?_
  refine (Finset.eq_univ_of_forall fun k => Finset.mem_image.mpr ⟨qOf c d k, Finset.mem_Ico.mpr (ch_qOf c d k).2, (ch_qOf c d k).1⟩).symm

/-- What device `c` ends with in its rows, -/
def outRow (c : Dev nD) (t : RT) : FVec F S64x1024 .f32 := val m ρ t.2.1 t.2.2 (qOf c t.2.1 t.1) c
/-- and in its whole result. -/
def outX (c : Dev nD) : (cc0_stg1_0 : Ref sig .tc).ty.Contents (Elt F) := Rect.glue rowT rowT_cov (outRow m ρ c)

theorem outX_emb (c : Dev nD) (t : RT) : (fun y => outX m ρ c ((rowT t).emb y)) = outRow m ρ c t :=
  funext fun y => Rect.glue_emb rowT rowT_cov rowT_disj (outRow m ρ c) t y

theorem rowAny_intro (c : Dev nD) (k : Fin 16) (d j : Fin 2) (v : FVec F S64x1024 .f32) : rowIs c k d j v ⊢ rowAny c k d j := by
  unfold rowAny
  iintro H
  iexists v
  iexact H

theorem rows_split (c : Dev nD) (X : (cc0_stg1_0 : Ref sig .tc).ty.Contents (Elt F)) :
    (owns (c : Thread nD τ) oM fullShare X : sProp 𝕄) ⊢ bigSep Finset.univ fun t : RT => rowAny c t.1 t.2.1 t.2.2 := by
  refine (owns_rects (c : Thread nD τ) oM fullShare rowT (fun _ _ => rfl) rowT_disj rowT_cov X).trans (bigSep_mono fun t _ => ?_)
  exact rowAny_intro c t.1 t.2.1 t.2.2 (fun y => X ((rowT t).emb y))

theorem rows_join (c : Dev nD) :
    (bigSep Finset.univ fun t : RT => rowIs c t.1 t.2.1 t.2.2 (outRow m ρ c t)) ⊢ (owns (c : Thread nD τ) oM fullShare (outX m ρ c) : sProp 𝕄) := by
  refine BIBase.Entails.trans ?_ (owns_of_rects (c : Thread nD τ) oM fullShare rowT (fun _ _ => rfl) rowT_disj rowT_cov (outX m ρ c))
  simp only [outX_emb]
  exact .rfl

/-- The rows of a lane as it holds them at the start: those its first finished copy leaves from, and those handed to the
    neighbour before it; -/
theorem lane_rows (c : Dev nD) (d j : Fin 2) :
    (bigSep Finset.univ fun k => rowAny (F := F) c k d j)
      = iprop(rowAny c (ch c d 15) d j ∗ bigSep (Finset.Ico 15 30) (fun q => rowAny (F := F) c (ch (pv d c) d q) d j)) := by
  rw [by_copies c d, ico_first (by omega : 15 < 31)]
  refine congrArg (fun R => iprop(rowAny (F := F) c (ch c d 15) d j ∗ R)) ?_
  rw [show Finset.Ico (15 + 1) 31 = (Finset.Ico 15 30).map ⟨fun q => q + 1, fun a b h => Nat.succ.inj h⟩ from by
    ext x; simp only [Finset.mem_Ico, Finset.mem_map, Function.Embedding.coeFn_mk]
    exact ⟨fun h => ⟨x - 1, by omega, show x - 1 + 1 = x by omega⟩, fun ⟨y, h1, h2⟩ => by
      have h2 : y + 1 = x := h2
      omega⟩, bigSep_map]
  refine bigSep_congr fun q hq => ?_
  rw [Finset.mem_Ico] at hq
  show rowAny c (ch c d (q + 1)) d j = _
  rw [ch_pv c d q (by omega)]

/-- and at the end. -/
theorem lane_out (c : Dev nD) (d j : Fin 2) :
    iprop(bigSep (Finset.Ico 15 30) (fun q => rowIs c (ch c d q) d j (val m ρ d j q c)) ∗ rowIs c (ch c d 30) d j (val m ρ d j 30 c))
      ⊢ (bigSep Finset.univ fun k => rowIs c k d j (outRow m ρ c (k, d, j)) : sProp 𝕄) := by
  rw [by_copies c d, show (bigSep (Finset.Ico 15 31) fun q => rowIs c (ch c d q) d j (outRow m ρ c (ch c d q, d, j)) : sProp 𝕄)
    = bigSep (Finset.Ico 15 31) fun q => rowIs c (ch c d q) d j (val m ρ d j q c) from bigSep_congr fun q hq => by
      rw [Finset.mem_Ico] at hq
      unfold outRow
      rw [qOf_ch c d q hq.1 hq.2], ico_last (by omega : 15 ≤ 30)]
  iintro ⟨H1, H2⟩
  isplitl [H2]; · iexact H2
  iexact H1

end Cert.KernelIdeal.Run

end
-- ==== Proof.KernelIdealRun.Around.lean ====
/-
A lane's resources before the barrier and after the run, and a device's buffers as its four lanes hold them.
-/
module

public import proofs.«01_k».proof.Proof.KernelIdealRun.Buffers

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × CK → ℕ) (ιs : SKey → ℕ)

/-! ## Four lanes -/

theorem two (Φ : Fin 2 → sProp 𝕄) : bigSep Finset.univ Φ = iprop(Φ 0 ∗ Φ 1) := by
  rw [bigSep_univ_eq_bigSepL [0, 1] (by decide) (by decide) Φ]; rfl

/-- Something for each lane, in the order the body takes them. -/
def Four (A : Fin 2 → Fin 2 → sProp 𝕄) : sProp 𝕄 := iprop(A 0 0 ∗ A 1 0 ∗ A 0 1 ∗ A 1 1)

theorem four_of (A : Fin 2 → Fin 2 → sProp 𝕄) :
    (bigSep Finset.univ fun d : Fin 2 => bigSep Finset.univ fun j : Fin 2 => A d j) ⊢ Four A := by
  rw [two, two, two]; unfold Four
  iintro ⟨⟨H1, H2⟩, H3, H4⟩
  isplitl [H1]; · iexact H1
  isplitl [H3]; · iexact H3
  isplitl [H2] <;> iassumption

theorem of_four (A : Fin 2 → Fin 2 → sProp 𝕄) :
    Four A ⊢ (bigSep Finset.univ fun d : Fin 2 => bigSep Finset.univ fun j : Fin 2 => A d j) := by
  rw [two, two, two]; unfold Four
  iintro ⟨H1, H2, H3, H4⟩
  isplitl [H1 H3]
  · isplitl [H1] <;> iassumption
  isplitl [H2] <;> iassumption

theorem four_sep (A B : Fin 2 → Fin 2 → sProp 𝕄) : iprop(Four A ∗ Four B) ⊢ Four fun d j => iprop(A d j ∗ B d j) := by
  unfold Four
  iintro ⟨⟨H1, H2, H3, H4⟩, G1, G2, G3, G4⟩
  isplitl [H1 G1]; · isplitl [H1] <;> iassumption
  isplitl [H2 G2]; · isplitl [H2] <;> iassumption
  isplitl [H3 G3]; · isplitl [H3] <;> iassumption
  isplitl [H4] <;> iassumption

theorem sep_four (A B : Fin 2 → Fin 2 → sProp 𝕄) : (Four fun d j => iprop(A d j ∗ B d j)) ⊢ iprop(Four A ∗ Four B) := by
  unfold Four
  iintro ⟨⟨H1, G1⟩, ⟨H2, G2⟩, ⟨H3, G3⟩, H4, G4⟩
  isplitl [H1 H2 H3 H4]
  · isplitl [H1]; · iexact H1
    isplitl [H2]; · iexact H2
    isplitl [H3] <;> iassumption
  isplitl [G1]; · iexact G1
  isplitl [G2]; · iexact G2
  isplitl [G3] <;> iassumption

theorem four_mono {A B : Fin 2 → Fin 2 → sProp 𝕄} (h : ∀ d j, A d j ⊢ B d j) : Four A ⊢ Four B := by
  unfold Four
  exact BIClass.sep_mono (h 0 0) (BIClass.sep_mono (h 1 0) (BIClass.sep_mono (h 0 1) (h 1 1)))

theorem four_fupd {R : sProp 𝕄} [BI.Persistent R] {A B : Fin 2 → Fin 2 → sProp 𝕄} (h : ∀ d j, iprop(R ∗ A d j) ⊢ |={Set.univ}=> B d j) :
    iprop(R ∗ Four A) ⊢ |={Set.univ}=> Four B := by
  unfold Four
  iintro ⟨#HR, H1, H2, H3, H4⟩
  imod (h 0 0) $$ [H1] with H1
  · isplitr; · iexact HR
    iexact H1
  imod (h 1 0) $$ [H2] with H2
  · isplitr; · iexact HR
    iexact H2
  imod (h 0 1) $$ [H3] with H3
  · isplitr; · iexact HR
    iexact H3
  imod (h 1 1) $$ [H4] with H4
  · isplitr; · iexact HR
    iexact H4
  imodintro
  isplitl [H1]; · iexact H1
  isplitl [H2]; · iexact H2
  isplitl [H3] <;> iassumption

/-! ## A lane before the barrier -/

section Lane

variable (c : Dev nD) (d j : Fin 2)

/-- The last writes of the device's own landing slots, which it keeps: they empty the slots at the end. -/
def keepW : sProp 𝕄 :=
  iprop(writeTok ES ((c, d, j, par 15) : SKey) (15 / 2 + 1) ∗ writeTok ES ((c, d, j, par 16) : SKey) (16 / 2 + 1))

/-- The duties of the lane's copies. -/
def duesOf : sProp 𝕄 :=
  iprop(bigSep (Finset.Ico 0 30) (fun q => dutyTok ER (rvC (nx d c) d j q) (q / 2) 0)
    ∗ bigSep (Finset.Ico 0 30) (fun q => dutyTok ER (sdC c d j q) (q / 2) 0)
    ∗ bigSep (Finset.Ico 0 15) (fun q => writeTok ES ((nx d c, d, j, par q) : SKey) (q / 2 + 1)))

/-- The lane's positions, duties and slot records as dealt; -/
def LaneG : sProp 𝕄 :=
  iprop((rc (F := F) c d j 0 ∗ rc (F := F) c d j 1) ∗ (sc (F := F) c d j 0 ∗ sc (F := F) c d j 1) ∗ duesOf (F := F) c d j
    ∗ (readerAt ES ((c, d, j, par 0) : SKey) 0 ∗ readerAt ES ((c, d, j, par 1) : SKey) 0) ∗ keepW (F := F) c d j)
/-- its buffers; -/
def LaneB : sProp 𝕄 :=
  iprop((slotAny (F := F) sbM c d j (par 0) ∗ slotAny (F := F) sbM c d j (par 1)) ∗ (slotAny (F := F) rbM c d j (par 0) ∗ slotAny (F := F) rbM c d j (par 1))
    ∗ bigSep Finset.univ fun k => rowAny (F := F) c k d j)
/-- what is left when the landing slots and the rows the neighbour writes are given away; -/
def LaneT : sProp 𝕄 :=
  iprop((rc (F := F) c d j 0 ∗ rc (F := F) c d j 1) ∗ (sc (F := F) c d j 0 ∗ sc (F := F) c d j 1) ∗ duesOf (F := F) c d j
    ∗ (rd (F := F) c d j 0 ∗ rd (F := F) c d j 1) ∗ keepW (F := F) c d j
    ∗ (slotAny (F := F) sbM c d j (par 0) ∗ slotAny (F := F) sbM c d j (par 1)) ∗ rowAny (F := F) c (ch c d 15) d j)
/-- and what the neighbour gives. -/
def gl : sProp 𝕄 :=
  iprop((released ES ((nx d c, d, j, par 0) : SKey) 1 ∗ released ES ((nx d c, d, j, par 1) : SKey) 1)
    ∗ bigSep (Finset.Ico 15 30) (fun q => rowAny (F := F) (nx d c) (ch c d q) d j))

theorem rd_intro (q : ℕ) : (readerAt ES ((c, d, j, par q) : SKey) (q / 2 + 1) : sProp 𝕄) ⊢ rd c d j q := .rfl

theorem lane_release : iprop(Recs m ρ K ιs ∗ LaneG (F := F) c d j ∗ LaneB (F := F) c d j)
    ⊢ iprop(|={Set.univ}=> (LaneT (F := F) c d j ∗ gl (F := F) (pv d c) d j) : sProp 𝕄) := by
  unfold LaneG LaneB LaneT gl
  rw [lane_rows, nx_pv]
  iintro ⟨#HR, ⟨H1, H2, H3, ⟨R0, R1⟩, H4⟩, H5, ⟨S0, S1⟩, H6, H7⟩
  imod (release_any m ρ K ιs c d j (par 0) 0) $$ [R0 S0] with ⟨R0, L0⟩
  · isplitr; · iexact HR
    isplitl [R0] <;> iassumption
  imod (release_any m ρ K ιs c d j (par 1) 0) $$ [R1 S1] with ⟨R1, L1⟩
  · isplitr; · iexact HR
    isplitl [R1] <;> iassumption
  imodintro
  isplitr [L0 L1 H7]
  · isplitl [H1]; · iexact H1
    isplitl [H2]; · iexact H2
    isplitl [H3]; · iexact H3
    isplitl [R0 R1]
    · isplitl [R0]; · iapply (rd_intro c d j 0); iexact R0
      iapply (rd_intro c d j 1); iexact R1
    isplitl [H4]; · iexact H4
    isplitl [H5]; · iexact H5
    iexact H6
  isplitl [L0 L1]; · isplitl [L0] <;> iassumption
  iexact H7

/-- The tokens of the copies: the write of a landing slot for a partial sum, the rows for a finished one. -/
theorem tk_join : iprop(duesOf (F := F) c d j ∗ bigSep (Finset.Ico 15 30) (fun q => rowAny (F := F) (nx d c) (ch c d q) d j))
    ⊢ bigSep (Finset.Ico 0 30) (tk (F := F) c d j) := by
  unfold duesOf tk
  rw [bigSep_sep', bigSep_sep']
  have hd : Finset.Ico 0 30 \ Finset.Ico 0 15 = Finset.Ico 15 30 := by decide
  rw [sep_union (show Finset.Ico 0 15 ⊆ Finset.Ico 0 30 by decide)
    (fun q => if q ≤ 14 then writeTok ES ((nx d c, d, j, par q) : SKey) (q / 2 + 1) else rowAny (F := F) (nx d c) (ch c d q) d j), hd]
  iintro ⟨⟨H1, H2, H3⟩, H4⟩
  isplitl [H1]; · iexact H1
  isplitl [H2]; · iexact H2
  isplitl [H3]
  · iapply (Entails.of_eq (bigSep_congr fun q hq => by rw [if_pos (by have := (Finset.mem_Ico.mp hq).2; omega)] :
      bigSep (Finset.Ico 0 15) (fun q => (writeTok ES ((nx d c, d, j, par q) : SKey) (q / 2 + 1) : sProp 𝕄)) = _))
    iexact H3
  iapply (Entails.of_eq (bigSep_congr fun q hq => by rw [if_neg (by have := (Finset.mem_Ico.mp hq).1; omega)] :
    bigSep (Finset.Ico 15 30) (fun q => (rowAny (F := F) (nx d c) (ch c d q) d j : sProp 𝕄)) = _))
  iexact H4

theorem lane_start : iprop(bigSep (Finset.Ico 0 30) (crd (F := F) c d j) ∗ LaneT (F := F) c d j ∗ gl (F := F) c d j)
    ⊢ iprop(Lane0 (F := F) c d j ∗ keepW (F := F) c d j) := by
  unfold LaneT gl Lane0
  iintro ⟨HC, ⟨⟨A0, A1⟩, H2, H3, H4, H5, H6, H7⟩, H8, H9⟩
  isplitr [H5]
  · isplitl [HC A0 A1 H3 H9]
    · isplitl [HC]; · iexact HC
      isplitl [A0]; · iexact A0
      isplitl [A1]; · iexact A1
      iapply (tk_join c d j)
      isplitl [H3] <;> iassumption
    isplitl [H2]; · iexact H2
    isplitl [H4]; · iexact H4
    isplitl [H7]; · iexact H7
    isplitl [H6] <;> iassumption
  iexact H5

/-! ## A lane at the end -/

/-- The lane's buffers at the end, the result's rows holding the sums; -/
def LaneF : sProp 𝕄 :=
  iprop((slotAny (F := F) sbM c d j (par 0) ∗ slotAny (F := F) sbM c d j (par 1)) ∗ (slotAny (F := F) rbM c d j (par 0) ∗ slotAny (F := F) rbM c d j (par 1))
    ∗ bigSep Finset.univ fun k => rowIs c k d j (outRow m ρ c (k, d, j)))
/-- its semaphores back at zero. -/
def LaneV : sProp 𝕄 :=
  iprop((semVal (cell c (.rv d j (par 0))) 0 ∗ semVal (cell c (.rv d j (par 1))) 0) ∗ (semVal (cell c (.sd d j (par 0))) 0 ∗ semVal (cell c (.sd d j (par 1))) 0))

/-- Everything the credits of the run say. -/
def facts : sProp 𝕄 := bigSep Finset.univ fun d : Fin 2 => bigSep (Finset.range 56) (fact (F := F) d c)
instance facts_persistent : BI.Persistent (facts (F := F) c) := by unfold facts; infer_instance

theorem facts_at (i : ℕ) (h : i < 56) : facts (F := F) c ⊢ fact d c i :=
  (bigSep_elim (Finset.mem_univ d)).trans (bigSep_elim (Finset.mem_range.mpr h))

theorem close_at (k : CK) (r : ℕ) (h : ∀ r', r ≤ r' → (Rd (F := F) m ρ).duties (cell c k) r' = ∅) :
    iprop(Recs m ρ K ιs ∗ atPos ER (cell c k) r ∅ 0) ⊢ iprop(|={Set.univ}=> semVal (cell c k) 0 : sProp 𝕄) := by
  iintro ⟨#HR, H⟩
  iapply (Rounds.cell_close ER (Rd m ρ) (Set.mem_univ (K (c, k))) (fun h => h) (R := r) h)
  isplitr; · iapply (inv_at m ρ K ιs c k); iexact HR
  iexact H

theorem take_slot (n : ℕ) (h : n < 15) :
    iprop(Recs m ρ K ιs ∗ facts (F := F) c ∗ writeTok ES ((c, d, j, par (n + 2)) : SKey) ((n + 2) / 2 + 1))
      ⊢ iprop(|={Set.univ}=> slotAny (F := F) rbM c d j (par (n + 2)) : sProp 𝕄) := by
  iintro ⟨#HR, #HF, H⟩
  have hj := j.isLt
  ihave Hf := (facts_at c d (2 * n + j.val) (by omega)) $$ HF
  ihave Hf := (Entails.of_eq (fact_slot c d j n h)) $$ Hf
  icases Hf with ⟨-, Hf⟩
  iapply (slot_take ES (k := ((c, d, j, par (n + 2)) : SKey)) (S := rbS (F := F) (c, d, j, par (n + 2))) (Set.mem_univ (ιs (c, d, j, par (n + 2)))) ((n + 2) / 2 + 1))
  isplitr; · iapply (slotInv_at m ρ K ιs); iexact HR
  isplitl [Hf] <;> iassumption

/-- After fifteen rounds the cells of a parity are done. -/
theorem close_rc (p : Fin 2) (q : ℕ) (hp : par q = p) (hq : q / 2 = 15) :
    iprop(Recs m ρ K ιs ∗ rc (F := F) c d j q) ⊢ iprop(|={Set.univ}=> semVal (cell c (.rv d j p)) 0 : sProp 𝕄) := by
  subst hp; unfold rc; rw [hq]; exact close_at m ρ K ιs c (.rv d j (par q)) 15 (duties_later m ρ c _)
theorem close_sc (p : Fin 2) (q : ℕ) (hp : par q = p) (hq : q / 2 = 15) :
    iprop(Recs m ρ K ιs ∗ sc (F := F) c d j q) ⊢ iprop(|={Set.univ}=> semVal (cell c (.sd d j p)) 0 : sProp 𝕄) := by
  subst hp; unfold sc; rw [hq]; exact close_at m ρ K ιs c (.sd d j (par q)) 15 (duties_later m ρ c _)

theorem lane_end : iprop((Recs m ρ K ιs ∗ facts (F := F) c) ∗ LaneE m ρ c d j ∗ keepW (F := F) c d j)
    ⊢ iprop(|={Set.univ}=> (LaneF m ρ c d j ∗ LaneV (F := F) c d j) : sProp 𝕄) := by
  unfold LaneE keepW
  iintro ⟨⟨#HR, #HF⟩, ⟨⟨A0, A1⟩, ⟨B0, B1⟩, ⟨HS, HL⟩, -, -⟩, W1, W0⟩
  imod (take_slot m ρ K ιs c d j 13 (by omega)) $$ [W1] with W1
  · isplitr; · iexact HR
    isplitr; · iexact HF
    iexact W1
  imod (take_slot m ρ K ιs c d j 14 (by omega)) $$ [W0] with W0
  · isplitr; · iexact HR
    isplitr; · iexact HF
    iexact W0
  imod (close_rc m ρ K ιs c d j (par 0) 30 rfl rfl) $$ [A0] with A0
  · isplitr; · iexact HR
    iexact A0
  imod (close_rc m ρ K ιs c d j (par 1) 31 rfl rfl) $$ [A1] with A1
  · isplitr; · iexact HR
    iexact A1
  imod (close_sc m ρ K ιs c d j (par 0) 30 rfl rfl) $$ [B0] with B0
  · isplitr; · iexact HR
    iexact B0
  imod (close_sc m ρ K ιs c d j (par 1) 31 rfl rfl) $$ [B1] with B1
  · isplitr; · iexact HR
    iexact B1
  imodintro
  ihave HS := (Entails.of_eq (ico_first (show 13 < 30 by omega) (sdPay m ρ c d j))) $$ HS
  icases HS with ⟨S1, HS⟩
  ihave HS := (Entails.of_eq (ico_first (show 14 < 30 by omega) (sdPay m ρ c d j))) $$ HS
  icases HS with ⟨S0, HS⟩
  unfold LaneF LaneV
  isplitr [A0 A1 B0 B1]
  · isplitl [S0 S1]
    · isplitl [S0]; · iapply (Entails.of_eq (sdPay_slot m ρ c d j 14 (by omega))); iexact S0
      iapply (Entails.of_eq (sdPay_slot m ρ c d j 13 (by omega))); iexact S1
    isplitl [W0 W1]
    · isplitl [W0]; · iexact W0
      iexact W1
    iapply (lane_out m ρ c d j)
    isplitl [HS]
    · iapply (Entails.of_eq (bigSep_congr fun q hq => sdPay_row m ρ c d j q (by have := (Finset.mem_Ico.mp hq).1; omega) : bigSep (Finset.Ico 15 30) (sdPay m ρ c d j) = _))
      iexact HS
    iexact HL
  isplitl [A0 A1]
  · isplitl [A0] <;> iassumption
  isplitl [B0] <;> iassumption

end Lane

/-! ## The buffers of a device -/

theorem slots_four (b : Fin 2 → Memref sig .tc .vmem S2x2x64x1024 .f32) (c : Dev nD) :
    iprop(bufAny (F := F) c (b 0) ∗ bufAny c (b 1)) ⊢ Four fun d j => iprop(slotAny (F := F) b c d j (par 0) ∗ slotAny b c d j (par 1)) := by
  refine (BIClass.sep_mono (slots_split c b 0) (slots_split c b 1)).trans ?_
  refine BIBase.Entails.trans ?_ (four_of _)
  rw [bigSep_univ_prod, bigSep_univ_prod, two (fun d => bigSep Finset.univ fun j : Fin 2 => iprop(slotAny (F := F) b c d j (par 0) ∗ slotAny b c d j (par 1)))]
  simp only [two]
  exact .rfl

theorem four_slots (b : Fin 2 → Memref sig .tc .vmem S2x2x64x1024 .f32) (c : Dev nD) :
    (Four fun d j => iprop(slotAny (F := F) b c d j (par 0) ∗ slotAny b c d j (par 1))) ⊢ iprop(bufAny (F := F) c (b 0) ∗ bufAny c (b 1)) := by
  refine BIBase.Entails.trans ?_ (BIClass.sep_mono (slots_join c b 0) (slots_join c b 1))
  refine (of_four _).trans ?_
  rw [bigSep_univ_prod, bigSep_univ_prod, two (fun d => bigSep Finset.univ fun j : Fin 2 => iprop(slotAny (F := F) b c d j (par 0) ∗ slotAny b c d j (par 1)))]
  simp only [two]
  exact .rfl

theorem rows_four (Φ : RT → sProp 𝕄) :
    (bigSep Finset.univ Φ) = bigSep Finset.univ fun d : Fin 2 => bigSep Finset.univ fun j : Fin 2 => bigSep Finset.univ fun k => Φ (k, d, j) := by
  rw [bigSep_univ_prod]
  simp only [bigSep_univ_prod, two, bigSep_sep']

theorem bufs_lanes (c : Dev nD) (X : (cc0_stg1_0 : Ref sig .tc).ty.Contents (Elt F)) :
    iprop((owns (c : Thread nD τ) oM fullShare X) ∗ (bufAny c (sbM 0) ∗ bufAny c (sbM 1)) ∗ (bufAny c (rbM 0) ∗ bufAny c (rbM 1)))
      ⊢ (Four (LaneB (F := F) c) : sProp 𝕄) := by
  iintro ⟨HO, HS, HR⟩
  ihave HO := (((rows_split c X).trans (Entails.of_eq (rows_four _))).trans (four_of _)) $$ HO
  ihave HS := (slots_four sbM c) $$ HS
  ihave HR := (slots_four rbM c) $$ HR
  unfold LaneB
  iapply (four_sep _ _)
  isplitl [HS]; · iexact HS
  iapply (four_sep _ _)
  isplitl [HR] <;> iassumption

theorem lanes_bufs (c : Dev nD) : (Four (LaneF m ρ c) : sProp 𝕄)
    ⊢ iprop((owns (c : Thread nD τ) oM fullShare (outX m ρ c)) ∗ (bufAny c (sbM 0) ∗ bufAny c (sbM 1)) ∗ (bufAny c (rbM 0) ∗ bufAny c (rbM 1))) := by
  unfold LaneF
  iintro H
  ihave H := (sep_four _ _) $$ H
  icases H with ⟨HS, H⟩
  ihave H := (sep_four _ _) $$ H
  icases H with ⟨HR, HO⟩
  isplitl [HO]
  · iapply ((of_four _).trans ((Entails.of_eq (rows_four (F := F) fun t : RT => rowIs c t.1 t.2.1 t.2.2 (outRow m ρ c t)).symm).trans (rows_join m ρ c)))
    iexact HO
  isplitl [HS]
  · iapply (four_slots sbM c); iexact HS
  iapply (four_slots rbM c); iexact HR

/-! ## The barrier -/

theorem sep_swap (A B C D : sProp 𝕄) : iprop((A ∗ B) ∗ C ∗ D) ⊢ iprop((A ∗ C) ∗ B ∗ D) := by
  iintro ⟨⟨H1, H2⟩, H3, H4⟩
  isplitl [H1 H3]
  · isplitl [H1] <;> iassumption
  isplitl [H2] <;> iassumption

theorem grant_split (d : Fin 2) (c : Dev nD) : grant (F := F) d c ⊢ iprop(gl (F := F) c d 0 ∗ gl (F := F) c d 1) := by
  unfold grant gl
  rw [bigSep_univ_prod, two, two, two, two]
  exact sep_swap _ _ _ _

theorem grant_join (d : Fin 2) (c : Dev nD) : iprop(gl (F := F) c d 0 ∗ gl (F := F) c d 1) ⊢ grant (F := F) d c := by
  unfold grant gl
  rw [bigSep_univ_prod, two, two, two, two]
  exact sep_swap _ _ _ _

end Cert.KernelIdeal.Run

end
-- ==== Proof.KernelIdealRun.ProgEq.lean ====
/-
The printed body is the composed one.
-/
module

public import proofs.«01_k».proof.Proof.KernelIdealRun.Prog

@[expose] public section

noncomputable section

namespace Cert.KernelIdeal.Run

open Idealize.ShloMosaic Idealize.SL.Sem Cert.KernelIdeal Cert.KernelIdeal.Gen

variable {F : FTy → Type} [FloatOps F]

set_option maxRecDepth 65536 in
/-- The printed body, on the buffers the launch gives it, is the composed program. -/
theorem body_eq (t : Fin cfg0.N) : bodyAt0 (F := F) t = body := by
  obtain rfl := fin_N0 t
  chain_rfl

end Cert.KernelIdeal.Run

end
-- ==== Proof.KernelIdealRun.Body.lean ====
/-
The body of a device: the barrier, the four lanes, and everything given back at zero.
-/
module

public import proofs.«01_k».proof.Proof.KernelIdealRun.Around
public import proofs.«01_k».proof.Proof.KernelIdealRun.ProgEq

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × CK → ℕ) (ιs : SKey → ℕ)

/-! ## The barrier -/

section Entry

variable (c : Dev nD)

theorem nx_zero : nx 0 c = pv 1 c := rfl

/-- Signal the neighbour before in direction `d`: its barrier cell's duty `d`, with what it is granted. -/
theorem rule_signal_bar {Q : PUnit.{1} → sProp 𝕄} (d : Fin 2) {O₀ : CellTallies nD τ sig ℕ}
    (O : CellTallies nD τ sig ℕ) (hO : O₀ = O + tallyAt (cell (pv d c) .bar) 0 1) (k : P F) :
    iprop(Recs m ρ K ιs ∗ dutyTok ER (cell (pv d c) .bar) 0 d.val ∗ ow c O₀ ∗ grant (F := F) d (pv d c))
      ⊢ iprop((ow c O -∗ Run c k Q) -∗ Run c (signalTo (pv d c) barS k) Q) := by
  unfold ow signalTo
  iintro ⟨#HR, Htok, ⟨%W, HO⟩, Hg⟩ Hk
  iapply (Rounds.wp_signal 𝒱₀ ER (Rd m ρ) (c : Thread nD τ) none (dst := (pv d c : Thread nD τ)) (κ := K (pv d c, .bar)) (sem := barS)
    (d := d.val) (r := 0) (k' := 1) (by rw [show ((pv d c : Thread nD τ), SemLoc.reg barS) = cell (pv d c) .bar from rfl, duties_bar]; exact Finset.mem_range.mpr d.isLt)
    (amount_cell m ρ (pv d c) .bar 0 d.val) 0 O hO (W := W)) $$ [HO Htok Hg]
  · isplitr; · iapply (inv_at m ρ K ιs (pv d c) .bar); iexact HR
    isplitl [HO]; · iexact HO
    isplitl [Htok]; · iexact Htok
    isplitl [Hg]
    · rw [show (Rd (F := F) m ρ).payload ((pv d c : Thread nD τ), SemLoc.reg barS) 0 d.val = grant (F := F) d (pv d c)
        from (payload_cell m ρ (pv d c) .bar 0 d.val).trans (by
          show grant (F := F) (par d.val) (pv d c) = _
          rw [show par d.val = d from Fin.ext (Nat.mod_eq_of_lt d.isLt)])]
      iexact Hg
    iapply (reached_at m ρ K ιs (pv d c) .bar); iexact HR
  iintro HO
  iapply Hk
  iexists W; iexact HO

/-- A device's barrier records: its place, and the two signals it owes. -/
def barG : sProp 𝕄 :=
  iprop(atPos ER (cell c .bar) 0 ∅ 0 ∗ dutyTok ER (cell (pv 0 c) .bar) 0 0 ∗ dutyTok ER (cell (pv 1 c) .bar) 0 1)

theorem rule_entry {Q : PUnit.{1} → sProp 𝕄} (k : P F) :
    iprop(Recs m ρ K ιs ∗ (barG (F := F) c ∗ cred (tallyAt (cell c .bar) 0 2)) ∗ ow c (owe₀ c) ∗ grant (F := F) 0 (pv 0 c) ∗ grant (F := F) 1 (pv 1 c))
      ⊢ iprop(((ow c (owe c 0) ∗ atPos ER (cell c .bar) 1 ∅ 0 ∗ grant (F := F) 0 c ∗ grant (F := F) 1 c) -∗ Run c k Q)
          -∗ Run c (entry c k) Q) := by
  unfold entry barG waitFor
  rw [frD_eq, toD_eq, nx_zero]
  iintro ⟨#HR, ⟨⟨Hat, T0, T1⟩, Hc⟩, HO, G0, G1⟩ Hk
  iapply (rule_signal_bar m ρ K ιs c 0 (owe c 0 + tallyAt (cell (pv 1 c) .bar) 0 1) (O₀ := owe₀ c) rfl _) $$ [T0 HO G0]
  · isplitr; · iexact HR
    isplitl [T0]; · iexact T0
    isplitl [HO]; · iexact HO
    iexact G0
  iintro HO
  iapply (rule_signal_bar m ρ K ιs c 1 (owe c 0) rfl _) $$ [T1 HO G1]
  · isplitr; · iexact HR
    isplitl [T1]; · iexact T1
    isplitl [HO]; · iexact HO
    iexact G1
  iintro HO
  iapply (rule_wait m ρ K ιs c .bar 0 0 2 (a := 2) (wpE_semWait_eq 𝒱₀ (c : Thread nD τ) none Set.univ) (expect_bar m ρ c)
    (by omega) (show 1 < 2 by omega) (above_owe c 0) (fun _ => k)) $$ [Hc HO Hat]
  · isplitr; · iexact HR
    isplitl [Hc]; · iexact Hc
    isplitl [HO]; · iexact HO
    iexact Hat
  iintro ⟨HO, Hat, -, Hp⟩
  ihave Hp := (Entails.of_eq (show bigSep ((Rd (F := F) m ρ).duties (cell c .bar) 0) (fun u => (Rd (F := F) m ρ).payload (cell c .bar) 0 u)
      = iprop(grant (F := F) 1 c ∗ grant (F := F) 0 c ∗ bigSep (Finset.range 0) fun u => (Rd (F := F) m ρ).payload (cell c .bar) 0 u) from by
    rw [duties_bar, range_last, range_last, payload_cell, payload_cell]; rfl)) $$ Hp
  icases Hp with ⟨G1, G0, -⟩
  iapply Hk
  isplitl [HO]; · iexact HO
  isplitl [Hat]; · iexact Hat
  isplitl [G0] <;> iassumption

end Entry

/-! ## The credit cells at the end -/

section Device

variable (c : Dev nD)

/-- A credit cell's records as dealt. -/
def crG (d : Fin 2) : sProp 𝕄 :=
  iprop(atPos ER (cell c (.cr d)) 0 ∅ 0 ∗ bigSep (Finset.Ico 0 56) (fun u => dutyTok ER (cell (pv d c) (.cr d)) 0 u))

theorem crs_start (d : Fin 2) : iprop(crG (F := F) c d ∗ bigSep (Finset.Ico 0 56) (fun u => cred (tallyAt (cell c (.cr d)) u 1))) ⊢ Crs (F := F) c d 0 0 := by
  unfold crG Crs
  iintro ⟨⟨Hat, Ht⟩, Hc⟩
  isplitl [Hat]
  · iexists (∅ : Finset ℕ)
    isplitr; · ipureintro; exact ⟨Finset.empty_subset _, le_refl _⟩
    isplitl [Hat]; · iexact Hat
    rw [bigSep_empty]; iempintro
  isplitl [Hc]; · iexact Hc
  isplitl [Ht]; · iexact Ht
  rw [Finset.range_zero, bigSep_empty]; iempintro

theorem duties_none (k : CK) (r : ℕ) (h : 1 ≤ r) (hk : k = .bar ∨ ∃ d, k = .cr d) : (Rd (F := F) m ρ).duties (cell c k) r = ∅ := by
  rw [duties_cell]
  rcases hk with rfl | ⟨d, rfl⟩ <;> exact if_neg (by omega)

theorem crs_end (d : Fin 2) : iprop(Recs m ρ K ιs ∗ Crs (F := F) c d 56 56)
    ⊢ iprop(|={Set.univ}=> (semVal (cell c (.cr d)) 0 ∗ bigSep (Finset.range 56) (fact (F := F) d c)) : sProp 𝕄) := by
  unfold Crs
  iintro ⟨#HR, ⟨%T, %hT, Hat, -⟩, -, -, Hf⟩
  have hT' : Finset.range 56 ⊆ T := (Finset.eq_of_subset_of_card_le hT.1 (by rw [Finset.card_range]; exact hT.2)).ge
  imod (Rounds.fupd_skip ER (Rd m ρ) (κ := K (c, .cr d)) (g := cell c (.cr d)) (R := 0) (m := 56) (T := T) (by rw [duties_cr]; exact hT') (expect_cr m ρ c d).symm
    (Set.mem_univ _)) $$ [Hat] with ⟨Hat, -⟩
  · isplitr; · iapply (inv_at m ρ K ιs c (.cr d)); iexact HR
    iexact Hat
  imod (close_at m ρ K ιs c (.cr d) 1 (fun r h => duties_none m ρ c _ r h (Or.inr ⟨d, rfl⟩))) $$ [Hat] with Hv
  · isplitr; · iexact HR
    iexact Hat
  imodintro
  isplitl [Hv] <;> iassumption

/-! ## A device's whole run -/

/-- What a device holds at launch, beside the records: positions, duties, slot writes; -/
def lin : sProp 𝕄 := iprop(barG (F := F) c ∗ (crG (F := F) c 0 ∗ crG (F := F) c 1) ∗ Four (LaneG (F := F) c))
/-- the credit of what it waits for. -/
def creds : sProp 𝕄 :=
  iprop(cred (tallyAt (cell c .bar) 0 2)
    ∗ (bigSep (Finset.Ico 0 56) (fun u => cred (tallyAt (cell c (.cr 0)) u 1)) ∗ bigSep (Finset.Ico 0 56) (fun u => cred (tallyAt (cell c (.cr 1)) u 1)))
    ∗ Four fun d j => bigSep (Finset.Ico 0 30) (crd (F := F) c d j))
/-- Its staging buffers at any contents. -/
def scr : sProp 𝕄 := iprop((bufAny (F := F) c (sbM 0) ∗ bufAny (F := F) c (sbM 1)) ∗ (bufAny (F := F) c (rbM 0) ∗ bufAny (F := F) c (rbM 1)))
/-- Its semaphores at zero. -/
def sems : sProp 𝕄 :=
  iprop(semVal (cell c .bar) 0 ∗ (semVal (cell c (.cr 0)) 0 ∗ semVal (cell c (.cr 1)) 0) ∗ Four (LaneV (F := F) c))

def start : sProp 𝕄 := iprop(∃ K ιs, Recs m ρ K ιs ∗ lin (F := F) c ∗ creds (F := F) c)

theorem four_grants (A : Fin 2 → Dev nD) (h : ∀ d, A d = pv d c ∨ A d = c) :
    (Four fun d j => gl (F := F) (A d) d j) ⊢ iprop(grant (F := F) 0 (A 0) ∗ grant (F := F) 1 (A 1)) := by
  unfold Four
  iintro ⟨H1, H2, H3, H4⟩
  isplitl [H1 H3]
  · iapply (grant_join 0 (A 0)); isplitl [H1] <;> iassumption
  iapply (grant_join 1 (A 1)); isplitl [H2] <;> iassumption

theorem grants_four : iprop(grant (F := F) 0 c ∗ grant (F := F) 1 c) ⊢ Four fun d j => gl (F := F) c d j := by
  unfold Four
  iintro ⟨H0, H1⟩
  ihave H0 := (grant_split 0 c) $$ H0
  ihave H1 := (grant_split 1 c) $$ H1
  icases H0 with ⟨A, B⟩
  icases H1 with ⟨C, D⟩
  isplitl [A]; · iexact A
  isplitl [C]; · iexact C
  isplitl [B] <;> iassumption

theorem four_def (A : Fin 2 → Fin 2 → sProp 𝕄) : Four A ⊢ iprop(A 0 0 ∗ A 1 0 ∗ A 0 1 ∗ A 1 1) := by unfold Four; exact .rfl
theorem def_four (A : Fin 2 → Fin 2 → sProp 𝕄) : iprop(A 0 0 ∗ A 1 0 ∗ A 0 1 ∗ A 1 1) ⊢ Four A := by unfold Four; exact .rfl

/-- The body, from the launch's resources to the result and everything given back. -/
theorem run_body {Q : PUnit.{1} → sProp 𝕄} (X : (cc0_stg1_0 : Ref sig .tc).ty.Contents (Elt F)) :
    iprop((Recs m ρ K ιs ∗ lin (F := F) c ∗ creds (F := F) c) ∗ scr (F := F) c ∗ ow c (owe₀ c) ∗ xPts c (xstg m ρ c) ∗ (owns (c : Thread nD τ) oM fullShare X))
      ⊢ iprop(((scr (F := F) c ∗ sems (F := F) c ∗ ow c 0 ∗ xPts c (xstg m ρ c) ∗ (owns (c : Thread nD τ) oM fullShare (outX m ρ c))) -∗ Q ⟨⟩)
          -∗ Run c body Q) := by
  unfold body lin creds scr
  iintro ⟨⟨#HR, ⟨Hb, ⟨HG0, HG1⟩, HL⟩, HcB, ⟨HC0, HC1⟩, HCL⟩, HS, HO, Hx, Hout⟩ Hk
  ihave Hbuf := (bufs_lanes c X) $$ [Hout HS]
  · isplitl [Hout] <;> iassumption
  ihave HL := (four_sep (LaneG (F := F) c) (LaneB (F := F) c)) $$ [HL Hbuf]
  · isplitl [HL] <;> iassumption
  imod (four_fupd (fun d j => lane_release m ρ K ιs c d j)) $$ [HL] with HL
  · isplitr; · iexact HR
    iexact HL
  ihave HL := (sep_four (LaneT (F := F) c) (fun d j => gl (F := F) (pv d c) d j)) $$ HL
  icases HL with ⟨HT, HG⟩
  ihave HG := (four_grants c (fun d => pv d c) (fun d => Or.inl rfl)) $$ HG
  icases HG with ⟨G0, G1⟩
  rw [wp_deviceId]
  iapply (rule_entry m ρ K ιs c _) $$ [Hb HcB HO G0 G1]
  · isplitr; · iexact HR
    isplitl [Hb HcB]; · isplitl [Hb] <;> iassumption
    isplitl [HO]; · iexact HO
    isplitl [G0] <;> iassumption
  iintro ⟨HO, Hbar, G0, G1⟩
  ihave HG := (grants_four c) $$ [G0 G1]
  · isplitl [G0] <;> iassumption
  ihave HL := (four_sep (LaneT (F := F) c) (gl (F := F) c)) $$ [HT HG]
  · isplitl [HT] <;> iassumption
  ihave HL := (four_sep (fun d j => bigSep (Finset.Ico 0 30) (crd (F := F) c d j)) (fun d j => iprop(LaneT (F := F) c d j ∗ gl (F := F) c d j))) $$ [HCL HL]
  · isplitl [HCL] <;> iassumption
  ihave HL := (four_mono fun d j => lane_start (F := F) c d j) $$ HL
  ihave HL := (sep_four (Lane0 (F := F) c) (keepW (F := F) c)) $$ HL
  icases HL with ⟨HL, HW⟩
  iapply (run_lanes m ρ K ιs c (.ret ⟨⟩)) $$ [HG0 HC0 HG1 HC1 Hx HO HL]
  · isplitr; · iexact HR
    unfold St
    isplitl [HG0 HC0]; · iapply (crs_start c 0); isplitl [HG0] <;> iassumption
    isplitl [HG1 HC1]; · iapply (crs_start c 1); isplitl [HG1] <;> iassumption
    isplitl [Hx]; · iexact Hx
    isplitl [HO]; · iexact HO
    iapply (four_def (Lane0 (F := F) c)); iexact HL
  unfold St
  iintro ⟨HC0, HC1, Hx, HO, HL⟩
  imod (crs_end m ρ K ιs c 0) $$ [HC0] with ⟨V0, #F0⟩
  · isplitr; · iexact HR
    iexact HC0
  imod (crs_end m ρ K ιs c 1) $$ [HC1] with ⟨V1, #F1⟩
  · isplitr; · iexact HR
    iexact HC1
  imod (close_at m ρ K ιs c .bar 1 (fun r h => duties_none m ρ c _ r h (Or.inl rfl))) $$ [Hbar] with VB
  · isplitr; · iexact HR
    iexact Hbar
  ihave HL := (four_sep (LaneE m ρ c) (keepW (F := F) c)) $$ [HL HW]
  · isplitl [HL]; · iapply (def_four (LaneE m ρ c)); iexact HL
    iexact HW
  imod (four_fupd (R := iprop(Recs m ρ K ιs ∗ facts (F := F) c)) (fun d j => lane_end m ρ K ιs c d j)) $$ [HL] with HL
  · isplitr
    · isplitr; · iexact HR
      unfold facts; rw [two]
      isplitr; · iexact F0
      iexact F1
    iexact HL
  ihave HL := (sep_four (LaneF m ρ c) (LaneV (F := F) c)) $$ HL
  icases HL with ⟨HF, HV⟩
  ihave HF := (lanes_bufs m ρ c) $$ HF
  icases HF with ⟨Hout, HS⟩
  rw [wp_ret]; imodintro
  iapply Hk
  isplitl [HS]; · iexact HS
  isplitl [V0 V1 VB HV]
  · unfold sems
    isplitl [VB]; · iexact VB
    isplitl [V0 V1]; · isplitl [V0] <;> iassumption
    iexact HV
  isplitl [HO]; · iexact HO
  isplitl [Hx]; · iexact Hx
  iexact Hout

end Device

/-! ## The pipeline's proof data -/

def Φ₀ (c : Dev nD) : sProp 𝕄 := iprop(start m ρ c ∗ scr (F := F) c)
def Φ₁ (c : Dev nD) : sProp 𝕄 := iprop(scr (F := F) c ∗ sems (F := F) c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outX m ρ c
  Φ t := match t with
    | ⟨0, _⟩ => Φ₀ m ρ c
    | ⟨_ + 1, _⟩ => Φ₁ (F := F) c
  q _ := fullShare
  owed t := match t with
    | ⟨0, _⟩ => owe₀ c
    | ⟨_ + 1, _⟩ => 0

theorem two_windows (Φ : Fin cfg0.W → sProp 𝕄) : bigSep Finset.univ Φ = iprop(Φ (0 : Fin 2) ∗ Φ (1 : Fin 2)) := bigSep_W0 Φ

theorem owns_pts (c : Dev nD) (b : Ref sig .tc) (X : b.ty.Contents (Elt F)) :
    (owns (c : Thread nD τ) (Memref.whole b) fullShare X : sProp 𝕄) ⊢ (((c : Thread nD τ).loc b) ↦{fullShare} X) := by
  rw [owns_whole_eq]
  iintro ⟨%f, %hf, H⟩
  subst hf; iexact H

theorem pts_owns (c : Dev nD) (b : Ref sig .tc) (X : b.ty.Contents (Elt F)) :
    (((c : Thread nD τ).loc b) ↦{fullShare} X) ⊢ (owns (c : Thread nD τ) (Memref.whole b) fullShare X : sProp 𝕄) := by
  rw [owns_whole_eq]
  iintro H
  iexists X
  isplitr; · ipureintro; rfl
  iexact H

set_option maxRecDepth 4000 in
/-- What the point starts from, spelt out, -/
def bodyPre (c : Dev nD) : sProp 𝕄 :=
  iprop(Φ₀ m ρ c ∗ (dats m ρ 0 c).owesAt 0 t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))
set_option maxRecDepth 4000 in
/-- and what it ends with. -/
def bodyPost (c : Dev nD) : sProp 𝕄 :=
  iprop(Φ₁ (F := F) c ∗ (dats m ρ 0 c).owesAt 0 t0_0.succ ∗ (owns (c : Thread nD τ) xM fullShare (xstg m ρ c)) ∗ (owns (c : Thread nD τ) oM fullShare (outX m ρ c)))

theorem body_run (c : Dev nD) : bodyPre m ρ c ⊢ Run c body (fun _ => bodyPost m ρ c) := by
  unfold bodyPre bodyPost Φ₀ Φ₁ start Pipeline.Dat.owesAt Pipeline.owesWithin
  rw [show (dats m ρ 0 c).owed t0_0.castSucc = owe₀ c from rfl, show (dats m ρ 0 c).owed t0_0.succ = 0 from rfl]
  iintro ⟨⟨⟨%K, %ιs, Hst⟩, Hscr⟩, ⟨%W, %hW, HO⟩, ⟨%d0, Hx⟩, ⟨%d1, Hout⟩⟩
  have hx : (dats m ρ 0 c).before (0 : Fin 2) t0_0 d0 = xstg m ρ c := by
    unfold Pipeline.Dat.before; rw [if_pos (fetch0_0 t0_0)]; rfl
  ihave Hx := ((Entails.of_eq (congrArg (fun X => (owns (c : Thread nD τ) xM fullShare X : sProp 𝕄)) hx)).trans (owns_pts c cc0_stg0_0 _)) $$ Hx
  iapply (run_body m ρ K ιs c ((dats m ρ 0 c).before (1 : Fin 2) t0_0 d1)) $$ [Hst Hscr HO Hx Hout]
  · isplitl [Hst]; · iexact Hst
    isplitl [Hscr]; · iexact Hscr
    isplitl [HO]; · unfold ow; iexists W; iexact HO
    isplitl [Hx]; · unfold xPts; iexact Hx
    iexact Hout
  unfold ow xPts
  iintro ⟨HS, HV, ⟨%W', HO⟩, Hx, Hout⟩
  isplitl [HS HV]; · isplitl [HS] <;> iassumption
  isplitl [HO]
  · iexists W'
    isplitr; · ipureintro; exact fun _ _ => Or.inl trivial
    iexact HO
  isplitl [Hx]; · iapply (pts_owns c cc0_stg0_0 (xstg m ρ c)); iexact Hx
  iexact Hout

set_option maxRecDepth 65536 in
/-- The body the launch runs is the composed program. -/
theorem launched_eq : defs₀ (F := F) Proc.tc cfg0.body (cfg0.bodyArgs t0_0 (cfg0.slots t0_0)) = body := by
  rw [← body_eq t0_0]
  chain_rfl

set_option maxRecDepth 4000 in
/-- The library's body obligation. -/
theorem body_obligation (c : Dev nD) : Pipeline.BodyObligation (dats (F := F) m ρ 0 c) (defs₀ (F := F)) 𝒱₀ 0 Set.univ := fun t => by
  rw [fin_N0 t]
  rw [two_windows, two_windows, launched_eq]
  have h := body_run m ρ c
  generalize (body : P F) = b at h ⊢
  unfold bodyPre bodyPost at h
  exact h

end Cert.KernelIdeal.Run

end
-- ==== Proof.KernelIdealRun.Deal.lean ====
/-
What the launch deals: the tokens of the duties around the ring, the writes of the landing slots, the credit of every wait.
-/
module

public import proofs.«01_k».proof.Proof.KernelIdealRun.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## Collections, regrouped -/

theorem four_eq (A : Fin 2 → Fin 2 → sProp 𝕄) :
    (bigSep Finset.univ fun d : Fin 2 => bigSep Finset.univ fun j : Fin 2 => A d j) = Four A := Entails.antisymm (four_of A) (of_four A)

/-- Over direction, half and parity. -/
theorem by_lane (Φ : Fin 2 × Fin 2 × Fin 2 → sProp 𝕄) :
    bigSep Finset.univ Φ = Four fun d j => iprop(Φ (d, j, par 0) ∗ Φ (d, j, par 1)) := by
  rw [← four_eq, bigSep_univ_prod]
  refine bigSep_congr fun d _ => ?_
  rw [bigSep_univ_prod]
  exact bigSep_congr fun j _ => two _

/-- Over the kinds of cells but the barrier's; -/
theorem by_own (Φ : CK → sProp 𝕄) : (bigSep Finset.univ fun k : OK => Φ (ckEquiv (some k)))
    = iprop((Φ (.cr 0) ∗ Φ (.cr 1)) ∗ (Four fun d j => iprop(Φ (.sd d j (par 0)) ∗ Φ (.sd d j (par 1))))
      ∗ (Four fun d j => iprop(Φ (.rv d j (par 0)) ∗ Φ (.rv d j (par 1))))) := by
  rw [bigSep_univ_sum, bigSep_univ_sum, two, by_lane, by_lane]; rfl

/-- over all. -/
theorem by_kind (Φ : CK → sProp 𝕄) : bigSep Finset.univ Φ = iprop(Φ .bar ∗ bigSep Finset.univ fun k : OK => Φ (ckEquiv (some k))) := by
  rw [bigSep_univ_equiv ckEquiv Φ, bigSep_univ_at _ none,
    show (Finset.univ.erase none : Finset (Option OK)) = Finset.univ.map ⟨some, fun a b h => Option.some.inj h⟩ by decide, bigSep_map]
  rfl

theorem fin_ico (n : ℕ) (Φ : ℕ → sProp 𝕄) : (bigSep Finset.univ fun i : Fin n => Φ i.val) = bigSep (Finset.Ico 0 n) Φ := by
  have e : Finset.Ico 0 n = (Finset.univ : Finset (Fin n)).map Fin.valEmbedding := by ext x; simp
  rw [e, bigSep_map]; rfl

theorem range_none (Φ : ℕ → sProp 𝕄) : bigSep (Finset.range 0) Φ = iprop(emp) := bigSep_empty
theorem ico_none (n : ℕ) (Φ : ℕ → sProp 𝕄) : bigSep (Finset.Ico n n) Φ = iprop(emp) := by rw [Finset.Ico_self]; exact bigSep_empty

/-- Two sequences, one for each parity. -/
theorem by_parity (Ψ : Fin 2 → ℕ → sProp 𝕄) (n : ℕ) :
    iprop(bigSep (Finset.range n) (Ψ (par 0)) ∗ bigSep (Finset.range n) (Ψ (par 1))) ⊢ bigSep (Finset.range (2 * n)) fun q => Ψ (par q) (q / 2) := by
  induction n with
  | zero => rw [range_none, range_none]; iintro -; rw [range_none]; iempintro
  | succ n ih =>
    rw [show 2 * (n + 1) = 2 * n + 1 + 1 by omega, range_last, range_last, range_last, range_last,
      show par (2 * n + 1) = par 1 from Fin.ext (by show (2 * n + 1) % 2 = 1; omega),
      show par (2 * n) = par 0 from Fin.ext (by show 2 * n % 2 = 0; omega), show (2 * n + 1) / 2 = n by omega, show 2 * n / 2 = n by omega]
    iintro ⟨⟨H1, H2⟩, H3, H4⟩
    isplitl [H3]; · iexact H3
    isplitl [H1]; · iexact H1
    iapply ih
    isplitl [H2] <;> iassumption

/-- The steps of a run, by lane. -/
theorem by_steps (Φ : Fin 2 → Fin 2 → ℕ → sProp 𝕄) (n : ℕ) :
    (bigSep (Finset.Ico 0 (4 * n)) fun t => Φ (par t) (par (t / 2)) (t / 4)) ⊢ Four fun d j => bigSep (Finset.Ico 0 n) (Φ d j) := by
  induction n with
  | zero => unfold Four; simp only [Nat.mul_zero, ico_none]; iintro -; isplitl; · iempintro
            isplitl; · iempintro
            isplitl <;> iempintro
  | succ n ih =>
    simp only [show 4 * (n + 1) = 4 * n + 1 + 1 + 1 + 1 by omega]
    rw [ico_last (by omega), ico_last (by omega), ico_last (by omega), ico_last (by omega)]
    simp only [ico_last (Nat.zero_le n)]
    have e (i : ℕ) (h : i < 4) : Φ (par (4 * n + i)) (par ((4 * n + i) / 2)) ((4 * n + i) / 4) = Φ (par i) (par (i / 2)) n := by
      rw [show par (4 * n + i) = par i from Fin.ext (by show (4 * n + i) % 2 = i % 2; omega),
        show par ((4 * n + i) / 2) = par (i / 2) from Fin.ext (by show (4 * n + i) / 2 % 2 = i / 2 % 2; omega), show (4 * n + i) / 4 = n by omega]
    rw [show Φ (par (4 * n + 1 + 1 + 1)) (par ((4 * n + 1 + 1 + 1) / 2)) ((4 * n + 1 + 1 + 1) / 4) = Φ 1 1 n from e 3 (by omega),
      show Φ (par (4 * n + 1 + 1)) (par ((4 * n + 1 + 1) / 2)) ((4 * n + 1 + 1) / 4) = Φ 0 1 n from e 2 (by omega),
      show Φ (par (4 * n + 1)) (par ((4 * n + 1) / 2)) ((4 * n + 1) / 4) = Φ 1 0 n from e 1 (by omega),
      show Φ (par (4 * n)) (par (4 * n / 2)) (4 * n / 4) = Φ 0 0 n from e 0 (by omega)]
    iintro ⟨H3, H2, H1, H0, H⟩
    iapply (four_sep (fun d j => Φ d j n) (fun d j => bigSep (Finset.Ico 0 n) (Φ d j)))
    isplitr [H]
    · iapply (def_four fun d j => Φ d j n)
      isplitl [H0]; · iexact H0
      isplitl [H1]; · iexact H1
      isplitl [H2] <;> iassumption
    iapply ih; iexact H

/-! ## Around the ring -/

/-- Every device's thing, held by its neighbour. -/
def ringE (d : Fin 2) : Dev nD ≃ Dev nD := ⟨nx d, pv d, pv_nx d, nx_pv d⟩

theorem around_nx (d : Fin 2) (Φ : Dev nD → sProp 𝕄) : bigSep Finset.univ Φ = bigSep Finset.univ fun c => Φ (nx d c) := bigSep_univ_equiv (ringE d) Φ
theorem around_pv (d : Fin 2) (Φ : Dev nD → sProp 𝕄) : bigSep Finset.univ Φ = bigSep Finset.univ fun c => Φ (pv d c) := bigSep_univ_equiv (ringE d).symm Φ

theorem four_around (A : Fin 2 → Fin 2 → Dev nD → sProp 𝕄) :
    (bigSep Finset.univ fun c => Four fun d j => A d j c) = bigSep Finset.univ fun c => Four fun d j => A d j (nx d c) := by
  unfold Four
  simp only [bigSep_sep']
  rw [around_nx 0 (A 0 0), around_nx 1 (A 1 0), around_nx 0 (A 0 1), around_nx 1 (A 1 1)]

/-! ## The duties' tokens -/

/-- The duties of a device's own cells: the barrier's two, each credit cell's, each copy's on its receive cell and on its
    send cell. -/
abbrev TI : Type := Fin 2 ⊕ (Fin 2 × Fin 56) ⊕ ((Fin 2 × Fin 2) × Fin 30) ⊕ ((Fin 2 × Fin 2) × Fin 30)

def tokKind : TI → CK
  | .inl _ => .bar
  | .inr (.inl x) => .cr x.1
  | .inr (.inr (.inl x)) => .rv x.1.1 x.1.2 (par x.2.val)
  | .inr (.inr (.inr x)) => .sd x.1.1 x.1.2 (par x.2.val)
/-- The round and the number of a duty. -/
def tokAt : TI → ℕ × ℕ
  | .inl i => (0, i.val)
  | .inr (.inl x) => (0, x.2.val)
  | .inr (.inr (.inl x)) => (x.2.val / 2, 0)
  | .inr (.inr (.inr x)) => (x.2.val / 2, 0)

theorem copy_inj (a b : Fin 30) (hp : par a.val = par b.val) (hr : a.val / 2 = b.val / 2) : a = b := by
  have h : a.val % 2 = b.val % 2 := congrArg Fin.val hp
  exact Fin.ext (by omega)

theorem tok_inj (a b : TI) (hk : tokKind a = tokKind b) (hr : tokAt a = tokAt b) : a = b := by
  rcases a with a | ⟨a, u⟩ | ⟨⟨a, e⟩, u⟩ | ⟨⟨a, e⟩, u⟩ <;> rcases b with b | ⟨b, v⟩ | ⟨⟨b, g⟩, v⟩ | ⟨⟨b, g⟩, v⟩ <;>
    simp only [tokKind, tokAt, CK.cr.injEq, CK.rv.injEq, CK.sd.injEq, Prod.mk.injEq, reduceCtorEq, true_and, and_true] at hk hr
  · rw [Fin.ext hr]
  · rw [hk, Fin.ext hr]
  · rw [hk.1, hk.2.1, copy_inj _ _ hk.2.2 hr]
  · rw [hk.1, hk.2.1, copy_inj _ _ hk.2.2 hr]

def tokOf (x : Dev nD × TI) : GSem nD τ sig × ℕ × ℕ := (cell x.1 (tokKind x.2), tokAt x.2)

theorem cell_injective : Function.Injective fun x : Dev nD × CK => cell x.1 x.2 := by
  rintro ⟨c, k⟩ ⟨c', k'⟩ h
  have h1 : c = c' := congrArg (fun g : GSem nD τ sig => g.1.1) h
  have h2 : k = k' := csem_injective (congrArg Prod.snd h)
  rw [h1, h2]

theorem tokOf_injective : Function.Injective tokOf := by
  rintro ⟨c, a⟩ ⟨c', b⟩ h
  have h1 := cell_injective (a₁ := (c, tokKind a)) (a₂ := (c', tokKind b)) (congrArg Prod.fst h)
  have h2 : tokAt a = tokAt b := congrArg Prod.snd h
  rw [tok_inj a b (congrArg Prod.snd h1) h2, show c = c' from congrArg Prod.fst h1]

def ringCells : Finset (GSem nD τ sig) := Finset.univ.map ⟨_, cell_injective⟩
def ringToks : Finset (GSem nD τ sig × ℕ × ℕ) := Finset.univ.map ⟨tokOf, tokOf_injective⟩

section Tokens

variable (c : Dev nD)

def barTok (i : ℕ) (c : Dev nD) : sProp 𝕄 := dutyTok ER (cell c .bar) 0 i
def crTok (d : Fin 2) (c : Dev nD) : sProp 𝕄 := bigSep (Finset.Ico 0 56) (fun u => dutyTok ER (cell c (.cr d)) 0 u)
def rvTok (d j : Fin 2) (c : Dev nD) : sProp 𝕄 := bigSep (Finset.Ico 0 30) (fun q => dutyTok ER (rvC c d j q) (q / 2) 0)
def sdTok (d j : Fin 2) (c : Dev nD) : sProp 𝕄 := bigSep (Finset.Ico 0 30) (fun q => dutyTok ER (sdC c d j q) (q / 2) 0)

/-- The tokens of a device's own cells; -/
def toks : sProp 𝕄 :=
  iprop((barTok (F := F) 0 c ∗ barTok (F := F) 1 c) ∗ (crTok (F := F) 0 c ∗ crTok (F := F) 1 c)
    ∗ (Four fun d j => rvTok (F := F) d j c) ∗ (Four fun d j => sdTok (F := F) d j c))
/-- of the duties it pays. -/
def payToks : sProp 𝕄 :=
  iprop((barTok (F := F) 0 (pv 0 c) ∗ barTok (F := F) 1 (pv 1 c)) ∗ (crTok (F := F) 0 (pv 0 c) ∗ crTok (F := F) 1 (pv 1 c))
    ∗ (Four fun d j => rvTok (F := F) d j (nx d c)) ∗ (Four fun d j => sdTok (F := F) d j c))

theorem toks_eq : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  unfold toks
  rw [bigSep_univ_sum, bigSep_univ_sum, bigSep_univ_sum, two, bigSep_univ_prod, bigSep_univ_prod, bigSep_univ_prod, two, bigSep_univ_prod, bigSep_univ_prod,
    ← four_eq, ← four_eq]
  unfold barTok crTok rvTok sdTok
  simp only [← fin_ico]
  rfl

theorem toks_around : (bigSep Finset.univ fun c : Dev nD => (toks c : sProp 𝕄)) = bigSep Finset.univ fun c : Dev nD => payToks c := by
  unfold toks payToks
  simp only [bigSep_sep']
  rw [around_pv 0 (barTok 0), around_pv 1 (barTok 1), around_pv 0 (crTok 0), around_pv 1 (crTok 1), four_around (fun d j c => rvTok (F := F) d j c)]

end Tokens

/-! ## The landing slots' writes -/

/-- Over pairs of a slot and a number below `n`. -/
theorem pairs (n : ℕ) (Φ : SKey × ℕ → sProp 𝕄) :
    bigSep (Finset.univ ×ˢ Finset.range n) Φ = bigSep Finset.univ fun k : SKey => bigSep (Finset.range n) fun i => Φ (k, i) := by
  have e : (Finset.univ ×ˢ Finset.range n : Finset (SKey × ℕ))
      = (Finset.univ : Finset (SKey × Fin n)).map ((Function.Embedding.refl SKey).prodMap Fin.valEmbedding) := by
    ext ⟨k, i⟩
    rw [Finset.mem_product, Finset.mem_range, Finset.mem_map]
    refine ⟨fun h => ⟨(k, ⟨i, h.2⟩), Finset.mem_univ _, rfl⟩, fun ⟨x, _, h⟩ => ⟨Finset.mem_univ _, ?_⟩⟩
    have e : x.2.val = i := congrArg Prod.snd h
    exact e ▸ x.2.isLt
  rw [e, bigSep_map, bigSep_univ_prod]
  refine bigSep_congr fun k _ => ?_
  rw [Finset.range_eq_Ico, ← fin_ico]; rfl

/-- A device's own share of the writes of its landing slots, -/
def ownW (c : Dev nD) : sProp 𝕄 := Four fun d j => keepW (F := F) c d j
/-- and the writes of its slots, its neighbour's to make. -/
def wr (d j : Fin 2) (c : Dev nD) : sProp 𝕄 := bigSep (Finset.Ico 0 15) (fun q => writeTok ES ((c, d, j, par q) : SKey) (q / 2 + 1))

theorem writes_lane (c : Dev nD) (d j : Fin 2) :
    iprop((bigSep (Finset.range 9) fun n => writeTok ES ((c, d, j, par 0) : SKey) (n + 1)) ∗ (bigSep (Finset.range 9) fun n => writeTok ES ((c, d, j, par 1) : SKey) (n + 1)))
      ⊢ (iprop(wr (F := F) d j c ∗ keepW c d j) : sProp 𝕄) := by
  refine (by_parity (fun p n => (writeTok ES ((c, d, j, p) : SKey) (n + 1) : sProp 𝕄)) 9).trans ?_
  unfold wr keepW
  rw [Finset.range_eq_Ico]
  show bigSep (Finset.Ico 0 (17 + 1)) _ ⊢ _
  rw [ico_last (by omega)]
  show iprop(_ ∗ bigSep (Finset.Ico 0 (16 + 1)) _) ⊢ _
  rw [ico_last (by omega)]
  show iprop(_ ∗ _ ∗ bigSep (Finset.Ico 0 (15 + 1)) _) ⊢ _
  rw [ico_last (by omega)]
  iintro ⟨-, H16, H15, H⟩
  isplitl [H]; · iexact H
  isplitl [H15] <;> iassumption

theorem writes_dealt : (bigSep (Finset.univ ×ˢ Finset.range 9) (fun x : SKey × ℕ => writeTok ES x.1 (x.2 + 1)))
    ⊢ (iprop((bigSep Finset.univ fun c => Four fun d j => wr (F := F) d j (nx d c)) ∗ bigSep Finset.univ fun c => ownW c) : sProp 𝕄) := by
  rw [pairs, bigSep_univ_prod]
  refine (bigSep_mono (Ψ := fun c => iprop((Four fun d j => wr (F := F) d j c) ∗ ownW c)) fun c _ => ?_).trans ?_
  · rw [by_lane]
    refine (four_mono fun d j => writes_lane c d j).trans ?_
    exact sep_four (fun d j => wr (F := F) d j c) (fun d j => keepW c d j)
  · exact Entails.of_eq ((bigSep_sep' _ _ _).trans (congrArg (fun X => iprop(X ∗ _)) (four_around fun d j c => wr (F := F) d j c)))

/-! ## The credit of the run -/

section Credit

variable (c : Dev nD)

theorem cred_copy (d j : Fin 2) (q : ℕ) : (Pipeline.launchCred (fun e => copyDue e d j q) c : sProp 𝕄) ⊢ crd c d j q :=
  Pipeline.launchCred_tallyAt (csem (.rv d j (par q))) (nx d) (pv d) (nx_pv d) (pv_nx d) (q / 2) N c

/-- The credit of the credit signalled before copy `q`. -/
def crAt (d j : Fin 2) (q : ℕ) : sProp 𝕄 :=
  if 1 ≤ q ∧ q ≤ 28 then cred (tallyAt (cell c (.cr d)) (2 * (q - 1) + j.val) 1) else iprop(emp)

theorem cred_cred (d j : Fin 2) (q : ℕ) : (Pipeline.launchCred (fun e => credDue e d j q) c : sProp 𝕄) ⊢ crAt c d j q := by
  unfold credDue crAt
  by_cases h : 1 ≤ q ∧ q ≤ 28
  · simp only [if_pos h]
    exact Pipeline.launchCred_tallyAt (csem (.cr d)) (pv d) (nx d) (pv_nx d) (nx_pv d) (2 * (q - 1) + j.val) 1 c
  · simp only [if_neg h]
    exact Entails.of_eq (Pipeline.launchCred_zero c)

theorem crAt_sum (d : Fin 2) (n : ℕ) (h : n ≤ 28) :
    iprop(bigSep (Finset.Ico 1 (n + 1)) (crAt (F := F) c d 0) ∗ bigSep (Finset.Ico 1 (n + 1)) (crAt (F := F) c d 1))
      ⊢ bigSep (Finset.Ico 0 (2 * n)) (fun u => cred (tallyAt (cell c (.cr d)) u 1)) := by
  induction n with
  | zero => rw [ico_none, ico_none]; iintro -; rw [ico_none]; iempintro
  | succ n ih =>
    rw [show 2 * (n + 1) = 2 * n + 1 + 1 by omega, ico_last (show 1 ≤ n + 1 by omega), ico_last (show 1 ≤ n + 1 by omega),
      ico_last (show 0 ≤ 2 * n + 1 by omega), ico_last (show 0 ≤ 2 * n by omega)]
    rw [show crAt (F := F) c d 0 (n + 1) = cred (tallyAt (cell c (.cr d)) (2 * n) 1) by unfold crAt; rw [if_pos ⟨by omega, by omega⟩]; rfl,
      show crAt (F := F) c d 1 (n + 1) = cred (tallyAt (cell c (.cr d)) (2 * n + 1) 1) by unfold crAt; rw [if_pos ⟨by omega, by omega⟩]; rfl]
    iintro ⟨⟨H1, H2⟩, H3, H4⟩
    isplitl [H3]; · iexact H3
    isplitl [H1]; · iexact H1
    iapply (ih (by omega))
    isplitl [H2] <;> iassumption

theorem crAt_lane (d j : Fin 2) : bigSep (Finset.Ico 0 30) (crAt (F := F) c d j) ⊢ bigSep (Finset.Ico 1 29) (crAt (F := F) c d j) := by
  rw [sep_union (show Finset.Ico 1 29 ⊆ Finset.Ico 0 30 by decide)]
  iintro ⟨H, -⟩; iexact H

theorem crAt_four : (Four fun d j => bigSep (Finset.Ico 0 30) (crAt (F := F) c d j))
    ⊢ iprop(bigSep (Finset.Ico 0 56) (fun u => cred (tallyAt (cell c (.cr 0)) u 1)) ∗ bigSep (Finset.Ico 0 56) (fun u => cred (tallyAt (cell c (.cr 1)) u 1))) := by
  refine (four_mono fun d j => crAt_lane c d j).trans ((four_def _).trans ?_)
  iintro ⟨H1, H2, H3, H4⟩
  isplitl [H1 H3]
  · iapply (crAt_sum c 0 28 (by omega)); isplitl [H1] <;> iassumption
  iapply (crAt_sum c 1 28 (by omega)); isplitl [H2] <;> iassumption

theorem cred_owe : (Pipeline.launchCred (fun e => owe e 0) c : sProp 𝕄)
    ⊢ iprop((Four fun d j => bigSep (Finset.Ico 0 30) (crd (F := F) c d j)) ∗ Four fun d j => bigSep (Finset.Ico 0 30) (crAt (F := F) c d j)) := by
  unfold owe stepDue
  rw [Pipeline.launchCred_sum]
  refine (bigSep_mono fun t _ => (Entails.of_eq (Pipeline.launchCred_add _ _ c)).trans
    (BIClass.sep_mono (cred_copy c (par t) (par (t / 2)) (t / 4)) (cred_cred c (par t) (par (t / 2)) (t / 4)))).trans ?_
  rw [bigSep_sep']
  exact BIClass.sep_mono (by_steps (fun d j q => crd (F := F) c d j q) 30) (by_steps (fun d j q => crAt (F := F) c d j q) 30)

theorem cred_bar : iprop((Pipeline.launchCred (fun e => tallyAt (cell (nx 0 e) .bar) 0 1) c : sProp 𝕄) ∗ Pipeline.launchCred (fun e => tallyAt (cell (pv 0 e) .bar) 0 1) c)
    ⊢ (cred (tallyAt (cell c .bar) 0 2) : sProp 𝕄) := by
  refine (BIClass.sep_mono (Pipeline.launchCred_tallyAt (csem .bar) (nx 0) (pv 0) (nx_pv 0) (pv_nx 0) 0 1 c)
    (Pipeline.launchCred_tallyAt (csem .bar) (pv 0) (nx 0) (pv_nx 0) (nx_pv 0) 0 1 c)).trans ?_
  refine (cred_add _ _).2.trans (Entails.of_eq (congrArg cred ?_))
  exact tallyAt_add _ 0 1 1

/-- The launch deals every device the credit of what it waits for. -/
theorem creds_intro : (Pipeline.launchCred owe₀ c : sProp 𝕄) ⊢ creds c := by
  rw [show (owe₀ : Dev nD → CellTallies nD τ sig ℕ) = fun e => (fun e => owe e 0 + tallyAt (cell (nx 0 e) .bar) 0 1) e + tallyAt (cell (pv 0 e) .bar) 0 1 from rfl,
    Pipeline.launchCred_add, Pipeline.launchCred_add]
  unfold creds
  iintro ⟨⟨H1, H2⟩, H3⟩
  ihave H1 := (cred_owe c) $$ H1
  icases H1 with ⟨HR, HC⟩
  isplitl [H2 H3]
  · iapply (cred_bar c); isplitl [H2] <;> iassumption
  isplitl [HC]; · iapply (crAt_four c); iexact HC
  iexact HR

end Credit

end Cert.KernelIdeal.Run

end
-- ==== Proof.KernelIdealRun.Launch.lean ====
/-
The launch: what every device starts with, the invariants opened, and the run of the sixteen devices.
-/
module

public import proofs.«01_k».proof.Proof.KernelIdealRun.Deal
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts with -/

/-- Its positions, one for each of its cells. -/
def posns (c : Dev nD) : sProp 𝕄 := bigSep Finset.univ fun k : CK => atPos ER (cell c k) 0 ∅ 0
/-- The readers of its landing slots. -/
def readers (c : Dev nD) : sProp 𝕄 := bigSep Finset.univ fun x : Fin 2 × Fin 2 × Fin 2 => readerAt ES ((c, x) : SKey) 0

theorem rc_intro (c : Dev nD) (d j p : Fin 2) (q r : ℕ) (hp : par q = p) (hr : q / 2 = r) :
    (atPos ER (cell c (.rv d j p)) r ∅ 0 : sProp 𝕄) ⊢ rc (F := F) c d j q := by subst hp hr; exact .rfl
theorem sc_intro (c : Dev nD) (d j p : Fin 2) (q r : ℕ) (hp : par q = p) (hr : q / 2 = r) :
    (atPos ER (cell c (.sd d j p)) r ∅ 0 : sProp 𝕄) ⊢ sc (F := F) c d j q := by subst hp hr; exact .rfl

theorem lane_intro (c : Dev nD) (d j : Fin 2) :
    iprop((atPos ER (cell c (.sd d j (par 0))) 0 ∅ 0 ∗ atPos ER (cell c (.sd d j (par 1))) 0 ∅ 0)
        ∗ (atPos ER (cell c (.rv d j (par 0))) 0 ∅ 0 ∗ atPos ER (cell c (.rv d j (par 1))) 0 ∅ 0)
        ∗ rvTok (F := F) d j (nx d c) ∗ sdTok (F := F) d j c ∗ (readerAt ES ((c, d, j, par 0) : SKey) 0 ∗ readerAt ES ((c, d, j, par 1) : SKey) 0)
        ∗ wr (F := F) d j (nx d c) ∗ keepW c d j)
      ⊢ LaneG (F := F) c d j := by
  unfold LaneG duesOf rvTok sdTok wr
  iintro ⟨⟨S0, S1⟩, ⟨R0, R1⟩, HR, HS, Hrd, HW, HK⟩
  isplitl [R0 R1]
  · isplitl [R0]; · iapply (rc_intro c d j _ 0 0 rfl rfl); iexact R0
    iapply (rc_intro c d j _ 1 0 rfl rfl); iexact R1
  isplitl [S0 S1]
  · isplitl [S0]; · iapply (sc_intro c d j _ 0 0 rfl rfl); iexact S0
    iapply (sc_intro c d j _ 1 0 rfl rfl); iexact S1
  isplitl [HR HS HW]
  · isplitl [HR]; · iexact HR
    isplitl [HS] <;> iassumption
  isplitl [Hrd] <;> iassumption

theorem lin_intro (c : Dev nD) :
    iprop(posns (F := F) c ∗ payToks (F := F) c ∗ readers (F := F) c ∗ (Four fun d j => wr (F := F) d j (nx d c)) ∗ ownW (F := F) c) ⊢ lin (F := F) c := by
  unfold posns readers payToks ownW lin
  rw [by_kind, by_own (fun k => atPos ER (cell c k) 0 ∅ 0), by_lane]
  iintro ⟨⟨Pb, ⟨P0, P1⟩, PS, PV⟩, ⟨⟨B0, B1⟩, ⟨C0, C1⟩, TV, TS⟩, HRd, HW, HK⟩
  isplitl [Pb B0 B1]
  · unfold barG barTok
    isplitl [Pb]; · iexact Pb
    isplitl [B0] <;> iassumption
  isplitl [P0 P1 C0 C1]
  · unfold crG crTok
    isplitl [P0 C0]
    · isplitl [P0] <;> iassumption
    isplitl [P1] <;> iassumption
  iapply (four_mono fun d j => lane_intro c d j)
  iapply (four_sep (fun d j => iprop(atPos ER (cell c (.sd d j (par 0))) 0 ∅ 0 ∗ atPos ER (cell c (.sd d j (par 1))) 0 ∅ 0)) _)
  isplitl [PS]; · iexact PS
  iapply (four_sep (fun d j => iprop(atPos ER (cell c (.rv d j (par 0))) 0 ∅ 0 ∗ atPos ER (cell c (.rv d j (par 1))) 0 ∅ 0)) _)
  isplitl [PV]; · iexact PV
  iapply (four_sep (fun d j => rvTok (F := F) d j (nx d c)) _)
  isplitl [TV]; · iexact TV
  iapply (four_sep (fun d j => sdTok (F := F) d j c) _)
  isplitl [TS]; · iexact TS
  iapply (four_sep (fun d j => iprop(readerAt ES ((c, d, j, par 0) : SKey) 0 ∗ readerAt ES ((c, d, j, par 1) : SKey) 0)) _)
  isplitl [HRd]; · iexact HRd
  iapply (four_sep (fun d j => wr (F := F) d j (nx d c)) _)
  isplitl [HW]; · iexact HW
  iexact HK

/-! ## The launch's resources -/

/-- The kernel's own semaphores: all but the barrier's. -/
def osem (k : OK) : SemLoc sig := csem (ckEquiv (some k))

theorem ownSemFacts : Pipeline.OwnSemFacts cfg0.spec osem := by decide

theorem share_eq (c : Dev nD) (w : Fin cfg0.W) : (dats m ρ 0 c).share w = fullShare := by unfold Pipeline.Dat.share; split <;> rfl

def u₀ : UU := (initOf (Pipeline.cells cfgs cellOf_inj) (Pipeline.launchToks cfgs cellOf_inj), (initOf ringCells ringToks, initSlots Finset.univ 9))

/-- The landing slots' ghost state, dealt to device 0. -/
def slots₀ (c : Dev nD) : sProp 𝕄 := if c = 0 then BI.own (ES (initSlots Finset.univ 9)) else iprop(emp)

/-- What the launch deals a device, -/
def G (c : Dev nD) : sProp 𝕄 :=
  iprop((bigSep Finset.univ fun k : CK => roundState ER (Rd m ρ) (cell c k) 0) ∗ (posns (F := F) c ∗ bigSep Finset.univ fun k : CK => reached ER (cell c k) 0)
    ∗ toks (F := F) c ∗ slots₀ (F := F) c)

/-- The cells' invariants and the slots'. -/
def recs₀ (K : Dev nD × CK → ℕ) (ιs : SKey → ℕ) : sProp 𝕄 :=
  iprop((bigSep Finset.univ fun x : Dev nD × CK => iprop(cellInv ER (Rd m ρ) (K x) (cell x.1 x.2) ∗ reached ER (cell x.1 x.2) 0))
    ∗ bigSep Finset.univ fun x : SKey => slotInv ES (ιs x) x (rbS (F := F) x))

instance recs₀_persistent (K : Dev nD × CK → ℕ) (ιs : SKey → ℕ) : BI.Persistent (recs₀ m ρ K ιs) := by unfold recs₀; infer_instance

/-- and what the opening of the invariants makes of it. -/
def G' (c : Dev nD) : sProp 𝕄 := iprop(∃ K ιs, recs₀ m ρ K ιs ∗ lin (F := F) c)

theorem slots₀_zero : (slots₀ (F := F) 0) = BI.own (ES (initSlots Finset.univ 9)) := if_pos rfl
theorem slots₀_ne (c : Dev nD) (h : c ≠ 0) : (slots₀ (F := F) c) = iprop(emp) := if_neg h

theorem slots_take : (bigSep Finset.univ fun c => slots₀ (F := F) c) ⊢ BI.own (ES (initSlots Finset.univ 9)) :=
  (bigSep_elim (Finset.mem_univ (0 : Dev nD))).trans (Entails.of_eq slots₀_zero)

theorem slots_deal : BI.own (ES (initSlots Finset.univ 9)) ⊢ (bigSep Finset.univ fun c => slots₀ (F := F) c) := by
  have h : iprop(emp) ⊢ bigSep (Finset.univ.erase (0 : Dev nD)) (fun c => slots₀ (F := F) c) :=
    (BI.bigSep_of_persistent _ (iprop(emp) : sProp 𝕄)).trans
      (bigSep_mono fun c hc => Entails.of_eq (slots₀_ne c (Finset.mem_erase.mp hc).1).symm)
  rw [bigSep_univ_at _ (0 : Dev nD)]
  have h0 : BI.own (ES (initSlots Finset.univ 9)) ⊢ slots₀ (F := F) 0 := Entails.of_eq slots₀_zero.symm
  iintro H
  isplitl; · iapply h0; iexact H
  iapply h; iempintro

theorem fund_ring : iprop(BI.own (ER (initOf ringCells ringToks)) ∗ BI.own (ES (initSlots Finset.univ 9))) ⊢ (|==> bigSep Finset.univ (G m ρ) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  iintro ⟨HX, HS⟩
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  ihave HS := (slots_deal (F := F)) $$ HS
  unfold G posns; simp only [bigSep_sep']
  isplitl [Hst]; · iexact Hst
  isplitl [Hat Hr]
  · isplitl [Hat] <;> iassumption
  isplitl [Htok] <;> iassumption

theorem unscopedSems0_eq (c : Dev nD) : (unscopedSems0 c : sProp 𝕄) = semVal (cell c .bar) 0 := by
  unfold unscopedSems0; rw [bigSep_eq_bigSepL_of_eq [csem .bar] (by decide) (by decide)]; rfl

theorem ownSems0_kind (c : Dev nD) : (Pipeline.ownSems0 (Ix := ℕ) (Name := ℕ) (U := UU) (Lvl := ℕ) (Val := Elt F) (τ := τ) osem c : sProp 𝕄)
    = bigSep Finset.univ fun k : OK => semVal (cell c (ckEquiv (some k))) 0 := rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (cell c k) 0 : sProp 𝕄) := by
  rw [unscopedSems0_eq, by_kind, ownSems0_kind]
  iintro ⟨HO, HB⟩
  isplitl [HB] <;> iassumption

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (cell c k)))
          ∗ (posns (F := F) c ∗ bigSep Finset.univ fun k : CK => reached ER (cell c k) 0) ∗ toks (F := F) c ∗ slots₀ (F := F) c) := by
  unfold G
  iintro ⟨Hos, Hus, Hst, Hrest⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m ρ) (cell c k) 0)
      ⊢ (|={Set.univ}=> bigSep Finset.univ fun k => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  iexact Hrest

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem readers_dealt : (bigSep Finset.univ fun x : SKey => readerAt ES x 0) ⊢ (bigSep Finset.univ fun c : Dev nD => readers (F := F) c) :=
  Entails.of_eq (by rw [bigSep_univ_prod]; rfl)

theorem g_intro (K : Dev nD × CK → ℕ) (ιs : SKey → ℕ) (c : Dev nD) : iprop(recs₀ m ρ K ιs
      ∗ (posns (F := F) c ∗ payToks (F := F) c ∗ readers (F := F) c ∗ (Four fun d j => wr (F := F) d j (nx d c)) ∗ ownW (F := F) c)) ⊢ G' m ρ c := by
  unfold G'
  iintro ⟨HR, H⟩
  iexists K; iexists ιs
  isplitl [HR]; · iexact HR
  iapply (lin_intro c); iexact H

theorem regroup :
    (bigSep Finset.univ fun c : Dev nD => iprop((bigSep Finset.univ fun k => iprop(∃ κ : ℕ, cellInv ER (Rd m ρ) κ (cell c k)))
          ∗ (posns (F := F) c ∗ bigSep Finset.univ fun k : CK => reached ER (cell c k) 0) ∗ toks (F := F) c ∗ slots₀ (F := F) c) : sProp 𝕄)
      ⊢ |={Set.univ}=> bigSep Finset.univ (G' m ρ) := by
  rw [bigSep_sep', bigSep_sep', bigSep_sep', bigSep_sep', ← bigSep_univ_prod (fun x : Dev nD × CK => iprop(∃ κ : ℕ, cellInv ER (Rd m ρ) κ (cell x.1 x.2))),
    ← bigSep_univ_prod (fun x : Dev nD × CK => (reached ER (cell x.1 x.2) 0 : sProp 𝕄)), toks_around]
  iintro ⟨HI, ⟨Hat, Hr⟩, Htok, HS⟩
  ihave HK := (BI.bigSep_exists_pi Finset.univ (fun (x : Dev nD × CK) (κ : ℕ) => (cellInv ER (Rd m ρ) κ (cell x.1 x.2) : sProp 𝕄))) $$ HI
  icases HK with ⟨%K, HI⟩
  ihave HS := (slots_take (F := F)) $$ HS
  imod (slots_init ES Finset.univ 9 (rbS (F := F))) $$ HS with ⟨%ιs, -, HIS, Hrd, HW⟩
  imodintro
  ihave Hrd := (readers_dealt (F := F)) $$ Hrd
  ihave HW := (writes_dealt (F := F)) $$ HW
  icases HW with ⟨HW, HO⟩
  iapply (bigSep_with_persistent (R := recs₀ m ρ K ιs) fun c _ => g_intro m ρ K ιs c)
  isplitl [HI Hr HIS]
  · unfold recs₀
    isplitl [HI Hr]
    · rw [bigSep_sep']; isplitl [HI] <;> iassumption
    iexact HIS
  rw [bigSep_sep', bigSep_sep', bigSep_sep', bigSep_sep']
  isplitl [Hat]; · iexact Hat
  isplitl [Htok]; · iexact Htok
  isplitl [Hrd]; · iexact Hrd
  isplitl [HW]; · iexact HW
  iexact HO

theorem fupd_idem {P : sProp 𝕄} : iprop(|={Set.univ}=> |={Set.univ}=> P) ⊢ iprop(|={Set.univ}=> P) := by
  iintro H
  imod H with H
  iexact H

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  (((bigSep_mono fun c _ => core_alloc m ρ c).trans (bigSep_fupd _ _)).trans (BI.fupd_mono (regroup m ρ))).trans fupd_idem

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m ρ c)
      ⊢ |={Set.univ}=> iprop(start m ρ c ∗ emp) := by
  unfold start G' recs₀ Recs
  iintro ⟨-, Hlev, Hcr, -, ⟨%K, %ιs, ⟨HC, HS⟩, HL⟩⟩
  ihave Hcr := (creds_intro (F := F) c) $$ Hcr
  imodintro
  isplitl
  · iexists K; iexists ιs
    isplitl [HC HS Hlev]
    · isplitl [HC]; · iexact HC
      isplitl [HS]; · iexact HS
      rw [Levs_eq]; iexact Hlev
    isplitl [HL] <;> iassumption
  · iempintro

theorem any_intro (c : Dev nD) (b : Ref sig .tc) : iprop(∃ f, (((c : Thread nD τ).loc b) ↦{fullShare} f)) ⊢ (iprop(∃ X, owns (c : Thread nD τ) (Memref.whole b) fullShare X) : sProp 𝕄) := by
  iintro ⟨%f, H⟩
  iexists f; iapply (pts_owns c b f); iexact H
theorem any_elim (c : Dev nD) (b : Ref sig .tc) : (iprop(∃ X, owns (c : Thread nD τ) (Memref.whole b) fullShare X) : sProp 𝕄) ⊢ iprop(∃ f, (((c : Thread nD τ).loc b) ↦{fullShare} f)) := by
  iintro ⟨%f, H⟩
  iexists f; iapply (owns_pts c b f); iexact H

theorem scr_intro (c : Dev nD) : (Pipeline.scopedRest cfg0.spec c : sProp 𝕄) ⊢ scr (F := F) c := by
  rw [scopedRest0_eq]
  unfold scr bufAny
  iintro ⟨H0, H1, H2, H3⟩
  isplitl [H0 H2]
  · isplitl [H0]; · iapply (any_intro c cc0_scratch0); iexact H0
    iapply (any_intro c cc0_scratch2); iexact H2
  · isplitl [H1]; · iapply (any_intro c cc0_scratch1); iexact H1
    iapply (any_intro c cc0_scratch3); iexact H3
theorem scr_elim (c : Dev nD) : scr (F := F) c ⊢ (Pipeline.scopedRest cfg0.spec c : sProp 𝕄) := by
  rw [scopedRest0_eq]
  unfold scr bufAny
  iintro ⟨⟨H0, H2⟩, H1, H3⟩
  isplitl [H0]; · iapply (any_elim c cc0_scratch0); iexact H0
  isplitl [H1]; · iapply (any_elim c cc0_scratch1); iexact H1
  isplitl [H2]; · iapply (any_elim c cc0_scratch2); iexact H2
  iapply (any_elim c cc0_scratch3); iexact H3

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_intro c); iexact Hr

theorem sems_out (c : Dev nD) :
    sems (F := F) c ⊢ iprop(unscopedSems0 c ∗ Pipeline.ownSems0 (Ix := ℕ) (Name := ℕ) (U := UU) (Lvl := ℕ) (Val := Elt F) (τ := τ) osem c) := by
  rw [unscopedSems0_eq, show Pipeline.ownSems0 (Ix := ℕ) (Name := ℕ) (U := UU) (Lvl := ℕ) (Val := Elt F) (τ := τ) osem c
    = iprop((semVal (cell c (.cr 0)) 0 ∗ semVal (cell c (.cr 1)) 0) ∗ (Four fun d j => iprop(semVal (cell c (.sd d j (par 0))) 0 ∗ semVal (cell c (.sd d j (par 1))) 0))
      ∗ (Four fun d j => iprop(semVal (cell c (.rv d j (par 0))) 0 ∗ semVal (cell c (.rv d j (par 1))) 0))) from by_own fun k => semVal (cell c k) 0]
  unfold sems LaneV
  iintro ⟨HB, HC, HL⟩
  isplitl [HB]; · iexact HB
  isplitl [HC]; · iexact HC
  ihave HL := (sep_four (fun d j => iprop(semVal (cell c (.rv d j (par 0))) 0 ∗ semVal (cell c (.rv d j (par 1))) 0))
    (fun d j => iprop(semVal (cell c (.sd d j (par 0))) 0 ∗ semVal (cell c (.sd d j (par 1))) 0))) $$ HL
  icases HL with ⟨HV, HS⟩
  isplitl [HS] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  iintro ⟨Hr, Hs⟩
  ihave Hs := (sems_out c) $$ Hs
  icases Hs with ⟨HB, HO⟩
  isplitl [HB]; · iexact HB
  isplitl [HO]; · iexact HO
  iapply (scr_elim c); iexact Hr

/-- Everything owed at launch is above the staging copies. -/
theorem above_owe₀ (c : Dev nD) : Above 1 (owe₀ c) :=
  (((above_owe c 0).mono (by omega)).add (Above.tally _ _ _ _ (by omega) (by decide))).add (Above.tally _ _ _ _ (by omega) (by decide))

theorem mayWait_stage (c : Dev nD) (sm : SemLoc sig) (hs : kindOf ((c : Thread nD τ), sm) = none) (O : CellTallies nD τ sig ℕ) (hO : Above 1 O) :
    (levAts L lv : sProp 𝕄) ⊢ MayWait (c : Thread nD τ) sm (0 : ℕ) O :=
  Pipeline.mayWait_of_levAts (by rw [L_tc]; decide)
    (fun g u hp => ⟨(hO g u hp).1, lt_of_lt_of_le (by rw [show lv ((c : Thread nD τ), sm) 0 = 0 by unfold lv; rw [hs]; rfl]; exact Nat.one_pos) (hO g u hp).2⟩)

theorem kindOf_dma (c : Dev nD) (q : DmaSem sig) (h : kind (.dma q) = none) : kindOf ((c : Thread nD τ), .dma q) = none := by
  unfold kindOf; rw [if_pos rfl]; exact h

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (kindOf_dma c _ (by fin_cases w <;> fin_cases s <;> decide)) _ (by
      rcases t with ⟨_ | _, ht⟩
      · exact above_owe₀ c
      · exact Above.zero 1)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution of the sixteen devices' main ends with each device's
    result array at the contents of the schedule, its argument unchanged, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      imod (fund_ring m ρ) $$ [HX] with HG
      · iexact HX
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Run

end
-- ==== Proof.RefValue.lean ====
/-
The reference's result at an index: the function of the sum of the sixteen blocks there.
-/
module

public import proofs.«01_k».proof.Defs
public import proofs.«01_k».proof.Proof.Gen.ReferenceIdeal
public import proofs.«01_k».proof.Proof.Gen.ReferenceIdeal.Run
public import Idealize.ShloMosaic.Lib.Pointwise
public import Idealize.ShloMosaic.Lib.Layout

@[expose] public section

noncomputable section

namespace Cert.Sum

open Idealize.ShloMosaic Idealize.SL.Sem

abbrev SBlk : Shape := ⟨2, ![4096, 1024]⟩
abbrev SAll : Shape := ⟨2, ![65536, 1024]⟩

theorem tiles : Layout.Tiles SBlk SAll 0 16 := by decide

/-- The function of one element of the sum. -/
def act (s : EReal) : EReal := Ideal.tanh s * s * s + max s 0 * max s 0 * max s 0

/-- The result: the function of the sum of the blocks. -/
def result (X : SAll.Idx → EReal) (i : SBlk.Idx) : EReal := act (∑ k : Fin 16, Layout.block SBlk SAll 0 16 k X tiles i)

theorem idx_tiles (k : Fin 16) (i : SBlk.Idx) (y : SAll.Idx) (h0 : (y 0).val = k.val * 4096 + (i 0).val) (h1 : (y 1).val = (i 1).val) :
    tiles.idx k i = y := by
  funext b
  refine Fin.ext ?_
  rw [Layout.Tiles.idx_val]
  match b with
  | ⟨0, _⟩ => exact h0.symm
  | ⟨1, _⟩ => exact h1.symm

open Cert.ReferenceIdeal Cert.ReferenceIdeal.Gen in
theorem ref_sum (X : FVec Ideal S65536x1024 .f32) (i : S4096x1024.Idx) :
    Host.reduceAdd (F := Ideal) (shapeCast _ X shapeCasts_S65536x1024_S16x4096x1024) (constant S_ .f32 0x00000000#32) reducesTo_S16x4096x1024_S4096x1024_d0 h_S_ i
      = ∑ k : Fin 16, Layout.block SBlk SAll 0 16 k X tiles i := by
  pointwise
  exact Finset.sum_congr rfl fun k _ => congrArg X (idx_tiles k i _ rfl rfl).symm

open Cert.ReferenceIdeal Cert.ReferenceIdeal.Gen in
theorem ref_act (S : FVec Ideal S4096x1024 .f32) (i : S4096x1024.Idx) :
    addf (mulf (mulf (Host.tanh S) S) S)
      (mulf (mulf (maximumf S (broadcastInDim S4096x1024 ![] bcast_S_S4096x1024 (constant S_ .f32 0x00000000#32)))
        (maximumf S (broadcastInDim S4096x1024 ![] bcast_S_S4096x1024 (constant S_ .f32 0x00000000#32))))
        (maximumf S (broadcastInDim S4096x1024 ![] bcast_S_S4096x1024 (constant S_ .f32 0x00000000#32)))) i = act (S i) := by
  unfold act
  pointwise

open Cert.ReferenceIdeal Cert.ReferenceIdeal.Gen in
/-- The reference's run: its result holds `result` of its argument. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = result (m ((c.tc : Thread nD τ).loc main_arg0))
      ∧ r.2.mem ((c.tc : Thread nD τ).loc main_arg0) = m ((c.tc : Thread nD τ).loc main_arg0) := by
  refine (θ_run (defs (F := Ideal)) _ _).mono (fun r h c => ⟨(h c).1.trans ?_, (h c).2⟩) (Cert.ReferenceIdeal.Value.run (F := Ideal) m ρ)
  funext i
  unfold result
  rw [← ref_sum]
  exact ref_act _ i

end Cert.Sum

end
-- ==== Proof.KernelIdealRun.Closed.lean ====
/-
What the run leaves in every device's result, at the ideal instance: the function of the sum of the sixteen devices'
blocks, whatever the order the copies added them in.
-/
module

public import proofs.«01_k».proof.Proof.KernelIdealRun.Launch
public import proofs.«01_k».proof.Proof.RefValue

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable (m : (ℓ : Loc nD τ sig) → Buf (Elt Ideal) ℓ) (ρ : Dev nD → PrngReg)

/-! ## The sum a copy carries -/

/-- The devices a copy has come through, from the last. -/
def back (d : Fin 2) (c : Dev nD) (i : ℕ) : Dev nD := (pv d)^[i] c

theorem back_succ (d : Fin 2) (c : Dev nD) (i : ℕ) : back d (pv d c) i = back d c (i + 1) := (Function.iterate_succ_apply (pv d) i c).symm

theorem back_all (d : Fin 2) (c : Dev nD) : (Finset.range 16).image (back d c) = Finset.univ := by revert d c; decide

/-- Sixteen steps back are the sixteen devices. -/
theorem sum_back (d : Fin 2) (c : Dev nD) (f : Dev nD → EReal) : ∑ i ∈ Finset.range 16, f (back d c i) = ∑ e : Dev nD, f e := by
  rw [← back_all d c]
  refine (Finset.sum_image ?_).symm
  exact Finset.card_image_iff.mp (by rw [back_all]; decide)

variable (d j : Fin 2)

theorem val_part (q : ℕ) (h : q ≤ 14) (c : Dev nD) (y : S64x1024.Idx) :
    val m ρ d j q c y = ∑ i ∈ Finset.range (q + 1), xr m ρ (back d c i) (ch c d q) d j y := by
  induction q generalizing c with
  | zero => rw [Finset.sum_range_one]; rfl
  | succ q ih =>
    rw [val_sum m ρ d j q c h, Finset.sum_range_succ']
    refine congrArg₂ (· + ·) ?_ rfl
    rw [ih (by omega), ch_pv c d q (by omega)]
    exact Finset.sum_congr rfl fun i _ => by rw [back_succ]

/-- The finished sum of the rows of lane `d, j` of chunk `k`. -/
def tot (k : Fin 16) : FVec Ideal S64x1024 .f32 := fun y => ∑ e : Dev nD, (xr m ρ e k d j y : EReal)

theorem val_last (c : Dev nD) : val m ρ d j 15 c = fOf (tot m ρ d j (ch c d 15)) := by
  rw [val_fin]
  refine congrArg fOf (funext fun y => ?_)
  refine Eq.trans ?_ (sum_back d c fun e => xr m ρ e (ch c d 15) d j y)
  rw [Finset.sum_range_succ']
  refine congrArg₂ (· + ·) ?_ rfl
  rw [val_part m ρ d j 14 (by omega), ch_pv c d 14 (by omega)]
  exact Finset.sum_congr rfl fun i _ => by rw [back_succ]

theorem val_done (q : ℕ) (h : 15 ≤ q) (hq : q ≤ 30) (c : Dev nD) : val m ρ d j q c = fOf (tot m ρ d j (ch c d q)) := by
  induction q, h using Nat.le_induction generalizing c with
  | base => exact val_last m ρ d j c
  | succ q h ih => rw [val_pass m ρ d j q c h, ih (by omega), ch_pv c d q (by omega)]

theorem outRow_eq (c : Dev nD) (t : RT) : outRow m ρ c t = fOf (tot m ρ t.2.1 t.2.2 t.1) := by
  have h := ch_qOf c t.2.1 t.1
  unfold outRow
  rw [val_done m ρ _ _ _ h.2.1 (by omega), h.1]

/-! ## The result array -/

theorem fOf_apply (s : FVec Ideal S64x1024 .f32) (y : S64x1024.Idx) : fOf s y = Cert.Sum.act (s y) := by
  unfold fOf Cert.Sum.act
  pointwise

theorem xr_apply (c : Dev nD) (k : Fin 16) (y : S64x1024.Idx) : xr m ρ c k d j y = xstg m ρ c ((rowN k d j).emb y) := by
  exact (congrFun (ofRows_eq _) y).trans rfl

theorem xstg_eq (c : Dev nD) : xstg m ρ c = m ((c : Thread nD τ).loc main_arg0) := by
  have hz : (fun a => (win0_0.index t0_0) a * main_arg0.ty.shape.size a) = fun _ => 0 := funext fun a => by fin_cases a <;> decide
  exact Memref.read_access_unit_zero (Elt Ideal) main_arg0 hz (fun a => by fin_cases a <;> decide) _

theorem outX_apply (c : Dev nD) (i : S4096x1024.Idx) :
    outX m ρ c i = Cert.Sum.act (∑ e : Dev nD, (m ((e : Thread nD τ).loc main_arg0) i : EReal)) := by
  obtain ⟨t, y, rfl⟩ : ∃ (t : RT) (y : S64x1024.Idx), (rowT t).emb y = i := by
    obtain ⟨t, -, ht⟩ := Finset.mem_biUnion.mp (by rw [rowT_cov]; exact Finset.mem_univ i)
    rw [← Rect.map_emb_univ] at ht
    obtain ⟨y, -, hy⟩ := Finset.mem_map.mp ht
    exact ⟨t, y, hy⟩
  refine (congrFun (outX_emb m ρ c t) y).trans ?_
  rw [outRow_eq, fOf_apply]
  refine congrArg Cert.Sum.act (Finset.sum_congr rfl fun e _ => ?_)
  rw [xr_apply, xstg_eq]; rfl

theorem finalA_o (c : Dev nD) : (win0_1.blk t0_0).view.read (Elt Ideal) (finalA m ρ c (1 : Fin 2)) = outX m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 t0_0, if_pos rfl]
  exact View.read_write_univ _ _

theorem finalA_o_eq (c : Dev nD) : finalA m ρ c (1 : Fin 2) = outX m ρ c := by
  have hz : (fun a => (win0_1.index t0_0) a * main_v1.ty.shape.size a) = fun _ => 0 := funext fun a => by fin_cases a <;> decide
  exact (Memref.read_access_unit_zero (Elt Ideal) main_v1 hz (fun a => by fin_cases a <;> decide) _).symm.trans (finalA_o m ρ c)

/-- Every device ends with the result of the whole argument. -/
theorem result_eq (X : Cert.Sum.SAll.Idx → EReal)
    (h : ∀ c : Dev nD, m ((c : Thread nD τ).loc main_arg0) = Layout.block Cert.Sum.SBlk Cert.Sum.SAll 0 16 c X Cert.Sum.tiles) (c : Dev nD) :
    finalA m ρ c (1 : Fin 2) = Cert.Sum.result X := by
  rw [finalA_o_eq]
  funext i
  rw [outX_apply]
  refine congrArg Cert.Sum.act (Finset.sum_congr rfl fun e _ => ?_)
  rw [h e]

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Launch
public import proofs.«01_k».proof.Proof.KernelIdealRun.Closed
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel over the device floats: no weak outcome, every semaphore back at zero, the argument as it was. -/
theorem frame_kernel : Cert.quiescent_Kernel := fun m ρ _ =>
  (θ_run Cert.Kernel.defs _ _).mono
    (fun _ h => ⟨fun c => (h.1 c (0 : Fin 2)).trans (Cert.Kernel.Run.finalA_x m ρ c), h.2⟩)
    (Cert.Kernel.Run.run_main (F := Bits) m ρ)

/-- The same of the kernel over the reals. -/
theorem frame_ideal : Cert.quiescent_KernelIdeal := fun m ρ _ =>
  (θ_run Cert.KernelIdeal.defs _ _).mono
    (fun _ h => ⟨fun c => (h.1 c (0 : Fin 2)).trans (Cert.KernelIdeal.Run.finalA_x m ρ c), h.2⟩)
    (Cert.KernelIdeal.Run.run_main (F := Ideal) m ρ)

/-- The reference owns no semaphore and writes its result only. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Sum.ref_run m ρ)

/-- The value: where every device holds its block of the reference's array, each of the sixteen ends with
    the reference's result, the activation of the sum of the sixteen blocks. -/
theorem value : Cert.algebraic_KernelIdeal_ReferenceIdeal := by
  intro m ρ m' ρ' _ hagree
  refine ⟨Cert.Sum.result
    (m' (((0 : Dev Cert.ReferenceIdeal.nD).tc : Thread _ Cert.ReferenceIdeal.τ).loc Cert.ReferenceIdeal.main_arg0)), ?_, ?_⟩
  · exact (θ_run Cert.KernelIdeal.defs _ _).mono
      (fun _ h c => ⟨(h.1 c (1 : Fin 2)).trans (Cert.KernelIdeal.Run.result_eq m ρ _ hagree c),
        (h.1 c (0 : Fin 2)).trans (Cert.KernelIdeal.Run.finalA_x m ρ c)⟩)
      (Cert.KernelIdeal.Run.run_main (F := Ideal) m ρ)
  · exact (θ_run Cert.ReferenceIdeal.defs _ _).mono (fun _ h => h 0) (Cert.Sum.ref_run m' ρ')

theorem claim : Cert.Claim :=
  ⟨Cert.Kernel.Gen.facts, Cert.KernelIdeal.Gen.facts, Cert.ReferenceIdeal.Gen.facts,
    frame_kernel, frame_ideal, frame_ref, trivial, value⟩

end Cert.Proof

end
